-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.BufferStatement Cert.KernelIdeal.S2048x2x256 Cert.KernelIdeal.S2048x1x256
  ∧ IdealRules.bf16_pair.Statement Cert.KernelIdeal.S64x256 Cert.KernelIdeal.S32x256
  ∧ IdealRules.bf16_pair.Statement Cert.KernelIdeal.S32x2x256 Cert.KernelIdeal.S32x1x256
  ∧ IdealRules.bf16_pair.Statement Cert.KernelIdeal.S2048x2x256 Cert.KernelIdeal.S2048x1x256
  ∧ IdealRules.bf16_pair.Statement Cert.KernelIdeal.S4096x256 Cert.KernelIdeal.S2048x256

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x4096 : Shape := ⟨3, ![128, 1, 4096]⟩
abbrev S11008x2048 : Shape := ⟨2, ![11008, 2048]⟩
abbrev S16 : Shape := ⟨1, ![16]⟩
abbrev S11008x64 : Shape := ⟨2, ![11008, 64]⟩
abbrev S2752 : Shape := ⟨1, ![2752]⟩
abbrev S1 : Shape := ⟨1, ![1]⟩
abbrev S64x4096 : Shape := ⟨2, ![64, 4096]⟩
abbrev S11008 : Shape := ⟨1, ![11008]⟩
abbrev S128x4096 : Shape := ⟨2, ![128, 4096]⟩
abbrev S128x16x4x8x2x2x2 : Shape := ⟨7, ![128, 16, 4, 8, 2, 2, 2]⟩
abbrev S128x16x2x2x4x8x2 : Shape := ⟨7, ![128, 16, 2, 2, 4, 8, 2]⟩
abbrev S16x1 : Shape := ⟨2, ![16, 1]⟩
abbrev S16x256 : Shape := ⟨2, ![16, 256]⟩
abbrev S2752x4 : Shape := ⟨2, ![2752, 4]⟩
abbrev S1x11008 : Shape := ⟨2, ![1, 11008]⟩
abbrev S1x1 : Shape := ⟨2, ![1, 1]⟩
abbrev S128x11008 : Shape := ⟨2, ![128, 11008]⟩
abbrev S2048x256 : Shape := ⟨2, ![2048, 256]⟩
abbrev S64x256 : Shape := ⟨2, ![64, 256]⟩
abbrev S43 : Shape := ⟨1, ![43]⟩
abbrev S_ : Shape := ⟨0, ![]⟩
abbrev S256x2048 : Shape := ⟨2, ![256, 2048]⟩
abbrev S128x64 : Shape := ⟨2, ![128, 64]⟩
abbrev S32x256 : Shape := ⟨2, ![32, 256]⟩
abbrev S32x128 : Shape := ⟨2, ![32, 128]⟩
abbrev S128x32 : Shape := ⟨2, ![128, 32]⟩
abbrev S128x96 : Shape := ⟨2, ![128, 96]⟩
abbrev S128x128 : Shape := ⟨2, ![128, 128]⟩
abbrev S256x64 : Shape := ⟨2, ![256, 64]⟩
abbrev S1x256 : Shape := ⟨2, ![1, 256]⟩
abbrev S256x128 : Shape := ⟨2, ![256, 128]⟩
abbrev S128x256 : Shape := ⟨2, ![128, 256]⟩
abbrev S128x128x1 : Shape := ⟨3, ![128, 128, 1]⟩
abbrev S4096x256 : Shape := ⟨2, ![4096, 256]⟩

abbrev nBuf : Space → Nat
  | .hbm => 22
  | .vmem => 13
  | .smem => 1
  | _ => 0

abbrev bufTy : (tb : Table) → Fin (tcTables nBuf tb) → BufTy
  | .hbm, ⟨0, _⟩ => ⟨S128x1x4096, .bf16⟩
  | .hbm, ⟨1, _⟩ => ⟨S11008x2048, .i8⟩
  | .hbm, ⟨2, _⟩ => ⟨S16, .i16⟩
  | .hbm, ⟨3, _⟩ => ⟨S11008x64, .i8⟩
  | .hbm, ⟨4, _⟩ => ⟨S2752, .f32⟩
  | .hbm, ⟨5, _⟩ => ⟨S1, .f32⟩
  | .hbm, ⟨6, _⟩ => ⟨S64x4096, .bf16⟩
  | .hbm, ⟨7, _⟩ => ⟨S11008x64, .bf16⟩
  | .hbm, ⟨8, _⟩ => ⟨S11008, .f32⟩
  | .hbm, ⟨9, _⟩ => ⟨S128x4096, .bf16⟩
  | .hbm, ⟨10, _⟩ => ⟨S128x16x4x8x2x2x2, .bf16⟩
  | .hbm, ⟨11, _⟩ => ⟨S128x16x4x8x2x2x2, .bf16⟩
  | .hbm, ⟨12, _⟩ => ⟨S128x16x2x2x4x8x2, .bf16⟩
  | .hbm, ⟨13, _⟩ => ⟨S128x4096, .bf16⟩
  | .hbm, ⟨14, _⟩ => ⟨S16x1, .i16⟩
  | .hbm, ⟨15, _⟩ => ⟨S16x256, .i16⟩
  | .hbm, ⟨16, _⟩ => ⟨S2752x4, .f32⟩
  | .hbm, ⟨17, _⟩ => ⟨S11008, .f32⟩
  | .hbm, ⟨18, _⟩ => ⟨S1x11008, .f32⟩
  | .hbm, ⟨19, _⟩ => ⟨S1x1, .f32⟩
  | .hbm, ⟨20, _⟩ => ⟨S1x11008, .f32⟩
  | .hbm, ⟨21, _⟩ => ⟨S128x11008, .bf16⟩
  | .local _ .vmem, ⟨0, _⟩ => ⟨S128x4096, .bf16⟩
  | .local _ .vmem, ⟨1, _⟩ => ⟨S128x4096, .bf16⟩
  | .local _ .vmem, ⟨2, _⟩ => ⟨S16x256, .i16⟩
  | .local _ .vmem, ⟨3, _⟩ => ⟨S11008x64, .i8⟩
  | .local _ .vmem, ⟨4, _⟩ => ⟨S1x11008, .f32⟩
  | .local _ .vmem, ⟨5, _⟩ => ⟨S64x4096, .bf16⟩
  | .local _ .vmem, ⟨6, _⟩ => ⟨S11008x64, .bf16⟩
  | .local _ .vmem, ⟨7, _⟩ => ⟨S1x11008, .f32⟩
  | .local _ .vmem, ⟨8, _⟩ => ⟨S128x11008, .bf16⟩
  | .local _ .vmem, ⟨9, _⟩ => ⟨S11008x2048, .i8⟩
  | .local _ .vmem, ⟨10, _⟩ => ⟨S2048x256, .i32⟩
  | .local _ .vmem, ⟨11, _⟩ => ⟨S2048x256, .i32⟩
  | .local _ .vmem, ⟨12, _⟩ => ⟨S64x256, .bf16⟩
  | .local _ .smem, ⟨0, _⟩ => ⟨S1x1, .f32⟩
  | _, _ => ⟨S128x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [BitOps F]

abbrev grid0 : Pipeline.Grid := .none

def k0_mult1 : BitVec 32 :=
  let c0_i32_145 : BitVec 32 := 0#32
  c0_i32_145
@[reducible] def k0_t1_loop : Scf.Loop 32 :=
  let c0_i32_537 : BitVec 32 := 0#32
  let c21_i32_538 : BitVec 32 := 21#32
  let v2283 : BitVec 32 := Scalar.addi c0_i32_537 c21_i32_538
  let c1_i32_539 : BitVec 32 := 1#32
  ⟨c0_i32_537, v2283, c1_i32_539⟩
def k0_off1 (k0_t1 : Fin k0_t1_loop.trips) (c1_i32_553 : BitVec 32) : Fin 1 → Nat :=
  let c2_i32_552 : BitVec 32 := 2#32
  let c0_i32_537 : BitVec 32 := 0#32
  let c1_i32_539 : BitVec 32 := 1#32
  let arg16 : BitVec 32 := Scf.iv c0_i32_537 c1_i32_539 k0_t1
  let v2304 : BitVec 32 := Scalar.muli c2_i32_552 arg16
  let v2305 : BitVec 32 := Scalar.addi v2304 c1_i32_553
  ![v2305.toNat]
def k0_off2 (k0_t1 : Fin k0_t1_loop.trips) (c1_i32_553 : BitVec 32) : Fin 2 → Nat :=
  let c2_i32_552 : BitVec 32 := 2#32
  let c0_i32_537 : BitVec 32 := 0#32
  let c1_i32_539 : BitVec 32 := 1#32
  let arg16 : BitVec 32 := Scf.iv c0_i32_537 c1_i32_539 k0_t1
  let v2304 : BitVec 32 := Scalar.muli c2_i32_552 arg16
  let v2305 : BitVec 32 := Scalar.addi v2304 c1_i32_553
  let c256_i32_554 : BitVec 32 := 256#32
  let v2306 : BitVec 32 := Scalar.muli v2305 c256_i32_554
  let c0_i32_555 : BitVec 32 := 0#32
  ![v2306.toNat, 0]
def k0_mult2 (k0_t1 : Fin k0_t1_loop.trips) : BitVec 32 :=
  let c2_i32_562 : BitVec 32 := 2#32
  let c0_i32_537 : BitVec 32 := 0#32
  let c1_i32_539 : BitVec 32 := 1#32
  let arg16 : BitVec 32 := Scf.iv c0_i32_537 c1_i32_539 k0_t1
  let v2318 : BitVec 32 := Scalar.muli c2_i32_562 arg16
  let c256_i32_563 : BitVec 32 := 256#32
  let v2319 : BitVec 32 := Scalar.muli v2318 c256_i32_563
  v2319
def k0_off3 (k0_t1 : Fin k0_t1_loop.trips) : Fin 2 → Nat :=
  let c2_i32_562 : BitVec 32 := 2#32
  let c0_i32_537 : BitVec 32 := 0#32
  let c1_i32_539 : BitVec 32 := 1#32
  let arg16 : BitVec 32 := Scf.iv c0_i32_537 c1_i32_539 k0_t1
  let v2318 : BitVec 32 := Scalar.muli c2_i32_562 arg16
  let c256_i32_563 : BitVec 32 := 256#32
  let v2319 : BitVec 32 := Scalar.muli v2318 c256_i32_563
  let v2320 : BitVec 32 := v2319
  let v2326 : Index := Scalar.indexCast v2320
  let c0_569 : Index := 0#32
  ![v2326.toNat, 0]
def k0_off4 (k0_t1 : Fin k0_t1_loop.trips) : Fin 2 → Nat :=
  let c0_572 : Index := 0#32
  let c2_i32_562 : BitVec 32 := 2#32
  let c0_i32_537 : BitVec 32 := 0#32
  let c1_i32_539 : BitVec 32 := 1#32
  let arg16 : BitVec 32 := Scf.iv c0_i32_537 c1_i32_539 k0_t1
  let v2318 : BitVec 32 := Scalar.muli c2_i32_562 arg16
  let c256_i32_563 : BitVec 32 := 256#32
  let v2319 : BitVec 32 := Scalar.muli v2318 c256_i32_563
  let v2320 : BitVec 32 := v2319
  let v2332 : Index := Scalar.indexCast v2320
  ![0, v2332.toNat]
def k0_off5 (k0_t1 : Fin k0_t1_loop.trips) : Fin 2 → Nat :=
  let c0_573 : Index := 0#32
  let c2_i32_562 : BitVec 32 := 2#32
  let c0_i32_537 : BitVec 32 := 0#32
  let c1_i32_539 : BitVec 32 := 1#32
  let arg16 : BitVec 32 := Scf.iv c0_i32_537 c1_i32_539 k0_t1
  let v2318 : BitVec 32 := Scalar.muli c2_i32_562 arg16
  let c256_i32_563 : BitVec 32 := 256#32
  let v2319 : BitVec 32 := Scalar.muli v2318 c256_i32_563
  let v2320 : BitVec 32 := v2319
  let v2338 : Index := Scalar.indexCast v2320
  ![0, v2338.toNat]
def k0_mult3 (k0_t1 : Fin k0_t1_loop.trips) : BitVec 32 :=
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let c1_i32_575 : BitVec 32 := 1#32
  let v2341 : BitVec 32 := Scalar.addi v2340 c1_i32_575
  let c256_i32_576 : BitVec 32 := 256#32
  let v2342 : BitVec 32 := Scalar.muli v2341 c256_i32_576
  v2342
def k0_off6 (k0_t1 : Fin k0_t1_loop.trips) (c1_i32_575 : BitVec 32) : Fin 2 → Nat :=
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let v2341 : BitVec 32 := Scalar.addi v2340 c1_i32_575
  let c256_i32_576 : BitVec 32 := 256#32
  let v2342 : BitVec 32 := Scalar.muli v2341 c256_i32_576
  let v2343 : BitVec 32 := v2342
  let v2344 : Index := Scalar.indexCast v2343
  let c0_577 : Index := 0#32
  ![v2344.toNat, 0]
def k0_off7 (k0_t1 : Fin k0_t1_loop.trips) (c1_i32_575 : BitVec 32) : Fin 2 → Nat :=
  let c0_578 : Index := 0#32
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let v2341 : BitVec 32 := Scalar.addi v2340 c1_i32_575
  let c256_i32_576 : BitVec 32 := 256#32
  let v2342 : BitVec 32 := Scalar.muli v2341 c256_i32_576
  let v2343 : BitVec 32 := v2342
  let v2348 : Index := Scalar.indexCast v2343
  ![0, v2348.toNat]
def k0_off8 (k0_t1 : Fin k0_t1_loop.trips) (c1_i32_575 : BitVec 32) : Fin 2 → Nat :=
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let v2341 : BitVec 32 := Scalar.addi v2340 c1_i32_575
  let c256_i32_576 : BitVec 32 := 256#32
  let v2342 : BitVec 32 := Scalar.muli v2341 c256_i32_576
  let v2343 : BitVec 32 := v2342
  let v2360 : Index := Scalar.indexCast v2343
  let c0_583 : Index := 0#32
  ![v2360.toNat, 0]
def k0_off9 (k0_t1 : Fin k0_t1_loop.trips) (c1_i32_575 : BitVec 32) : Fin 2 → Nat :=
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let v2341 : BitVec 32 := Scalar.addi v2340 c1_i32_575
  let c256_i32_576 : BitVec 32 := 256#32
  let v2342 : BitVec 32 := Scalar.muli v2341 c256_i32_576
  let v2343 : BitVec 32 := v2342
  let v2489 : Index := Scalar.indexCast v2343
  let c128_615 : Index := 128#32
  ![v2489.toNat, 128]
def k0_off10 (k0_t1 : Fin k0_t1_loop.trips) (c1_i32_575 : BitVec 32) : Fin 2 → Nat :=
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let v2341 : BitVec 32 := Scalar.addi v2340 c1_i32_575
  let c256_i32_576 : BitVec 32 := 256#32
  let v2342 : BitVec 32 := Scalar.muli v2341 c256_i32_576
  let v2343 : BitVec 32 := v2342
  let v2618 : Index := Scalar.indexCast v2343
  let c256_647 : Index := 256#32
  ![v2618.toNat, 256]
def k0_off11 (k0_t1 : Fin k0_t1_loop.trips) (c1_i32_575 : BitVec 32) : Fin 2 → Nat :=
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let v2341 : BitVec 32 := Scalar.addi v2340 c1_i32_575
  let c256_i32_576 : BitVec 32 := 256#32
  let v2342 : BitVec 32 := Scalar.muli v2341 c256_i32_576
  let v2343 : BitVec 32 := v2342
  let v2747 : Index := Scalar.indexCast v2343
  let c384_679 : Index := 384#32
  ![v2747.toNat, 384]
def k0_off12 (k0_t1 : Fin k0_t1_loop.trips) (c1_i32_575 : BitVec 32) : Fin 2 → Nat :=
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let v2341 : BitVec 32 := Scalar.addi v2340 c1_i32_575
  let c256_i32_576 : BitVec 32 := 256#32
  let v2342 : BitVec 32 := Scalar.muli v2341 c256_i32_576
  let v2343 : BitVec 32 := v2342
  let v2876 : Index := Scalar.indexCast v2343
  let c512_711 : Index := 512#32
  ![v2876.toNat, 512]
def k0_off13 (k0_t1 : Fin k0_t1_loop.trips) (c1_i32_575 : BitVec 32) : Fin 2 → Nat :=
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let v2341 : BitVec 32 := Scalar.addi v2340 c1_i32_575
  let c256_i32_576 : BitVec 32 := 256#32
  let v2342 : BitVec 32 := Scalar.muli v2341 c256_i32_576
  let v2343 : BitVec 32 := v2342
  let v3005 : Index := Scalar.indexCast v2343
  let c640_743 : Index := 640#32
  ![v3005.toNat, 640]
def k0_off14 (k0_t1 : Fin k0_t1_loop.trips) (c1_i32_575 : BitVec 32) : Fin 2 → Nat :=
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let v2341 : BitVec 32 := Scalar.addi v2340 c1_i32_575
  let c256_i32_576 : BitVec 32 := 256#32
  let v2342 : BitVec 32 := Scalar.muli v2341 c256_i32_576
  let v2343 : BitVec 32 := v2342
  let v3134 : Index := Scalar.indexCast v2343
  let c768_775 : Index := 768#32
  ![v3134.toNat, 768]
def k0_off15 (k0_t1 : Fin k0_t1_loop.trips) (c1_i32_575 : BitVec 32) : Fin 2 → Nat :=
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let v2341 : BitVec 32 := Scalar.addi v2340 c1_i32_575
  let c256_i32_576 : BitVec 32 := 256#32
  let v2342 : BitVec 32 := Scalar.muli v2341 c256_i32_576
  let v2343 : BitVec 32 := v2342
  let v3263 : Index := Scalar.indexCast v2343
  let c896_807 : Index := 896#32
  ![v3263.toNat, 896]
def k0_off16 (k0_t1 : Fin k0_t1_loop.trips) (c1_i32_575 : BitVec 32) : Fin 2 → Nat :=
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let v2341 : BitVec 32 := Scalar.addi v2340 c1_i32_575
  let c256_i32_576 : BitVec 32 := 256#32
  let v2342 : BitVec 32 := Scalar.muli v2341 c256_i32_576
  let v2343 : BitVec 32 := v2342
  let v3392 : Index := Scalar.indexCast v2343
  let c1024_839 : Index := 1024#32
  ![v3392.toNat, 1024]
def k0_off17 (k0_t1 : Fin k0_t1_loop.trips) (c1_i32_575 : BitVec 32) : Fin 2 → Nat :=
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let v2341 : BitVec 32 := Scalar.addi v2340 c1_i32_575
  let c256_i32_576 : BitVec 32 := 256#32
  let v2342 : BitVec 32 := Scalar.muli v2341 c256_i32_576
  let v2343 : BitVec 32 := v2342
  let v3521 : Index := Scalar.indexCast v2343
  let c1152_871 : Index := 1152#32
  ![v3521.toNat, 1152]
def k0_off18 (k0_t1 : Fin k0_t1_loop.trips) (c1_i32_575 : BitVec 32) : Fin 2 → Nat :=
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let v2341 : BitVec 32 := Scalar.addi v2340 c1_i32_575
  let c256_i32_576 : BitVec 32 := 256#32
  let v2342 : BitVec 32 := Scalar.muli v2341 c256_i32_576
  let v2343 : BitVec 32 := v2342
  let v3650 : Index := Scalar.indexCast v2343
  let c1280_903 : Index := 1280#32
  ![v3650.toNat, 1280]
def k0_off19 (k0_t1 : Fin k0_t1_loop.trips) (c1_i32_575 : BitVec 32) : Fin 2 → Nat :=
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let v2341 : BitVec 32 := Scalar.addi v2340 c1_i32_575
  let c256_i32_576 : BitVec 32 := 256#32
  let v2342 : BitVec 32 := Scalar.muli v2341 c256_i32_576
  let v2343 : BitVec 32 := v2342
  let v3779 : Index := Scalar.indexCast v2343
  let c1408_935 : Index := 1408#32
  ![v3779.toNat, 1408]
def k0_off20 (k0_t1 : Fin k0_t1_loop.trips) (c1_i32_575 : BitVec 32) : Fin 2 → Nat :=
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let v2341 : BitVec 32 := Scalar.addi v2340 c1_i32_575
  let c256_i32_576 : BitVec 32 := 256#32
  let v2342 : BitVec 32 := Scalar.muli v2341 c256_i32_576
  let v2343 : BitVec 32 := v2342
  let v3908 : Index := Scalar.indexCast v2343
  let c1536_967 : Index := 1536#32
  ![v3908.toNat, 1536]
def k0_off21 (k0_t1 : Fin k0_t1_loop.trips) (c1_i32_575 : BitVec 32) : Fin 2 → Nat :=
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let v2341 : BitVec 32 := Scalar.addi v2340 c1_i32_575
  let c256_i32_576 : BitVec 32 := 256#32
  let v2342 : BitVec 32 := Scalar.muli v2341 c256_i32_576
  let v2343 : BitVec 32 := v2342
  let v4037 : Index := Scalar.indexCast v2343
  let c1664_999 : Index := 1664#32
  ![v4037.toNat, 1664]
def k0_off22 (k0_t1 : Fin k0_t1_loop.trips) (c1_i32_575 : BitVec 32) : Fin 2 → Nat :=
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let v2341 : BitVec 32 := Scalar.addi v2340 c1_i32_575
  let c256_i32_576 : BitVec 32 := 256#32
  let v2342 : BitVec 32 := Scalar.muli v2341 c256_i32_576
  let v2343 : BitVec 32 := v2342
  let v4166 : Index := Scalar.indexCast v2343
  let c1792_1031 : Index := 1792#32
  ![v4166.toNat, 1792]
def k0_off23 (k0_t1 : Fin k0_t1_loop.trips) (c1_i32_575 : BitVec 32) : Fin 2 → Nat :=
  let c2_i32_574 : BitVec 32 := 2#32
  let c0_i32_537 : BitVec 32 := 0#32
  let c1_i32_539 : BitVec 32 := 1#32
  let arg16 : BitVec 32 := Scf.iv c0_i32_537 c1_i32_539 k0_t1
  let v2340 : BitVec 32 := Scalar.muli c2_i32_574 arg16
  let v2341 : BitVec 32 := Scalar.addi v2340 c1_i32_575
  let c256_i32_576 : BitVec 32 := 256#32
  let v2342 : BitVec 32 := Scalar.muli v2341 c256_i32_576
  let v2343 : BitVec 32 := v2342
  let v4295 : Index := Scalar.indexCast v2343
  let c1920_1063 : Index := 1920#32
  ![v4295.toNat, 1920]
def k0_mult4 (k0_t1 : Fin k0_t1_loop.trips) : BitVec 32 :=
  let c2_i32_1095 : BitVec 32 := 2#32
  let c0_i32_537 : BitVec 32 := 0#32
  let c1_i32_539 : BitVec 32 := 1#32
  let arg16 : BitVec 32 := Scf.iv c0_i32_537 c1_i32_539 k0_t1
  let v4424 : BitVec 32 := Scalar.muli c2_i32_1095 arg16
  let c1_i32_1096 : BitVec 32 := 1#32
  let v4425 : BitVec 32 := Scalar.addi v4424 c1_i32_1096
  let c256_i32_1097 : BitVec 32 := 256#32
  let v4426 : BitVec 32 := Scalar.muli v4425 c256_i32_1097
  v4426
def k0_off24 (k0_t1 : Fin k0_t1_loop.trips) : Fin 2 → Nat :=
  let c0_1107 : Index := 0#32
  let c2_i32_1095 : BitVec 32 := 2#32
  let c0_i32_537 : BitVec 32 := 0#32
  let c1_i32_539 : BitVec 32 := 1#32
  let arg16 : BitVec 32 := Scf.iv c0_i32_537 c1_i32_539 k0_t1
  let v4424 : BitVec 32 := Scalar.muli c2_i32_1095 arg16
  let c1_i32_1096 : BitVec 32 := 1#32
  let v4425 : BitVec 32 := Scalar.addi v4424 c1_i32_1096
  let c256_i32_1097 : BitVec 32 := 256#32
  let v4426 : BitVec 32 := Scalar.muli v4425 c256_i32_1097
  let v4427 : BitVec 32 := v4426
  let v4445 : Index := Scalar.indexCast v4427
  ![0, v4445.toNat]
def k0_mult5 (k0_t1 : Fin k0_t1_loop.trips) : BitVec 32 :=
  let c2_i32_1108 : BitVec 32 := 2#32
  let c0_i32_537 : BitVec 32 := 0#32
  let c1_i32_539 : BitVec 32 := 1#32
  let arg16 : BitVec 32 := Scf.iv c0_i32_537 c1_i32_539 k0_t1
  let v4447 : BitVec 32 := Scalar.muli c2_i32_1108 arg16
  let c2_i32_1109 : BitVec 32 := 2#32
  let v4448 : BitVec 32 := Scalar.addi v4447 c2_i32_1109
  let c256_i32_1110 : BitVec 32 := 256#32
  let v4449 : BitVec 32 := Scalar.muli v4448 c256_i32_1110
  v4449
def k0_mult6 : BitVec 32 :=
  let c10752_i32_541 : BitVec 32 := 10752#32
  c10752_i32_541
abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256 .i16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11008x64 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x11008 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S11008x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x11008 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x11008 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== KernelIdeal.lean ====
abbrev S2048x2x256 : Shape := ⟨3, ![2048, 2, 256]⟩
abbrev S2048x1x256 : Shape := ⟨3, ![2048, 1, 256]⟩
abbrev S32x2x256 : Shape := ⟨3, ![32, 2, 256]⟩
abbrev S32x1x256 : Shape := ⟨3, ![32, 1, 256]⟩
  | .local _ .vmem, ⟨10, _⟩ => ⟨S2048x2x256, .bf16⟩
  | .local _ .vmem, ⟨11, _⟩ => ⟨S2048x2x256, .bf16⟩
variable {F : FTy → Type} [FloatOps F]
-- ==== ReferenceIdeal.lean ====
abbrev S128x1x4096 : Shape := ⟨3, ![128, 1, 4096]⟩
abbrev S11008x2048 : Shape := ⟨2, ![11008, 2048]⟩
abbrev S16 : Shape := ⟨1, ![16]⟩
abbrev S11008x64 : Shape := ⟨2, ![11008, 64]⟩
abbrev S2752 : Shape := ⟨1, ![2752]⟩
abbrev S1 : Shape := ⟨1, ![1]⟩
abbrev S64x4096 : Shape := ⟨2, ![64, 4096]⟩
abbrev S11008 : Shape := ⟨1, ![11008]⟩
abbrev S_ : Shape := ⟨0, ![]⟩
abbrev S11008x2048x1 : Shape := ⟨3, ![11008, 2048, 1]⟩
abbrev S11008x2048x2 : Shape := ⟨3, ![11008, 2048, 2]⟩
abbrev S11008x64x64 : Shape := ⟨3, ![11008, 64, 64]⟩
abbrev S11008x64x64x1 : Shape := ⟨4, ![11008, 64, 64, 1]⟩
abbrev S2752x256 : Shape := ⟨2, ![2752, 256]⟩
abbrev S2752x1 : Shape := ⟨2, ![2752, 1]⟩
abbrev S11008x64x1 : Shape := ⟨3, ![11008, 64, 1]⟩
abbrev S11008x4096 : Shape := ⟨2, ![11008, 4096]⟩
abbrev S128x1x11008 : Shape := ⟨3, ![128, 1, 11008]⟩
abbrev S128x1x64 : Shape := ⟨3, ![128, 1, 64]⟩
abbrev S1x1x11008 : Shape := ⟨3, ![1, 1, 11008]⟩
abbrev S128x11008 : Shape := ⟨2, ![128, 11008]⟩

abbrev nBuf : Space → Nat
  | .hbm => 58
  | .vmem => 0
  | .smem => 0
  | _ => 0

abbrev bufTy : (tb : Table) → Fin (tcTables nBuf tb) → BufTy
  | .hbm, ⟨0, _⟩ => ⟨S128x1x4096, .bf16⟩
  | .hbm, ⟨1, _⟩ => ⟨S11008x2048, .i8⟩
  | .hbm, ⟨2, _⟩ => ⟨S16, .i16⟩
  | .hbm, ⟨3, _⟩ => ⟨S11008x64, .i8⟩
  | .hbm, ⟨4, _⟩ => ⟨S2752, .f32⟩
  | .hbm, ⟨5, _⟩ => ⟨S1, .f32⟩
  | .hbm, ⟨6, _⟩ => ⟨S64x4096, .bf16⟩
  | .hbm, ⟨7, _⟩ => ⟨S11008x64, .bf16⟩
  | .hbm, ⟨8, _⟩ => ⟨S11008, .f32⟩
  | .hbm, ⟨9, _⟩ => ⟨S11008x2048, .i32⟩
  | .hbm, ⟨10, _⟩ => ⟨S_, .i32⟩
  | .hbm, ⟨11, _⟩ => ⟨S11008x2048, .i32⟩
  | .hbm, ⟨12, _⟩ => ⟨S11008x2048, .i32⟩
  | .hbm, ⟨13, _⟩ => ⟨S_, .i32⟩
  | .hbm, ⟨14, _⟩ => ⟨S11008x2048, .i32⟩
  | .hbm, ⟨15, _⟩ => ⟨S11008x2048, .i32⟩
  | .hbm, ⟨16, _⟩ => ⟨S11008x2048x1, .i32⟩
  | .hbm, ⟨17, _⟩ => ⟨S11008x2048x1, .i32⟩
  | .hbm, ⟨18, _⟩ => ⟨S11008x2048x2, .i32⟩
  | .hbm, ⟨19, _⟩ => ⟨S11008x64x64, .i32⟩
  | .hbm, ⟨20, _⟩ => ⟨S16, .bf16⟩
  | .hbm, ⟨21, _⟩ => ⟨S_, .i32⟩
  | .hbm, ⟨22, _⟩ => ⟨S11008x64x64, .i32⟩
  | .hbm, ⟨23, _⟩ => ⟨S11008x64x64, .i1⟩
  | .hbm, ⟨24, _⟩ => ⟨S_, .i32⟩
  | .hbm, ⟨25, _⟩ => ⟨S11008x64x64, .i32⟩
  | .hbm, ⟨26, _⟩ => ⟨S11008x64x64, .i32⟩
  | .hbm, ⟨27, _⟩ => ⟨S11008x64x64, .i32⟩
  | .hbm, ⟨28, _⟩ => ⟨S11008x64x64x1, .i32⟩
  | .hbm, ⟨29, _⟩ => ⟨S11008x64x64, .bf16⟩
  | .hbm, ⟨30, _⟩ => ⟨S2752x256, .i8⟩
  | .hbm, ⟨31, _⟩ => ⟨S2752x256, .i32⟩
  | .hbm, ⟨32, _⟩ => ⟨S2752x256, .f32⟩
  | .hbm, ⟨33, _⟩ => ⟨S2752x1, .f32⟩
  | .hbm, ⟨34, _⟩ => ⟨S2752x256, .f32⟩
  | .hbm, ⟨35, _⟩ => ⟨S2752x256, .f32⟩
  | .hbm, ⟨36, _⟩ => ⟨S_, .f32⟩
  | .hbm, ⟨37, _⟩ => ⟨S2752x256, .f32⟩
  | .hbm, ⟨38, _⟩ => ⟨S2752x256, .f32⟩
  | .hbm, ⟨39, _⟩ => ⟨S11008x64, .f32⟩
  | .hbm, ⟨40, _⟩ => ⟨S11008x64, .bf16⟩
  | .hbm, ⟨41, _⟩ => ⟨S11008x64x1, .bf16⟩
  | .hbm, ⟨42, _⟩ => ⟨S11008x64x64, .bf16⟩
  | .hbm, ⟨43, _⟩ => ⟨S11008x64x64, .bf16⟩
  | .hbm, ⟨44, _⟩ => ⟨S11008x4096, .bf16⟩
  | .hbm, ⟨45, _⟩ => ⟨S128x1x11008, .f32⟩
  | .hbm, ⟨46, _⟩ => ⟨S128x1x64, .f32⟩
  | .hbm, ⟨47, _⟩ => ⟨S128x1x64, .bf16⟩
  | .hbm, ⟨48, _⟩ => ⟨S128x1x11008, .f32⟩
  | .hbm, ⟨49, _⟩ => ⟨S_, .f32⟩
  | .hbm, ⟨50, _⟩ => ⟨S128x1x11008, .f32⟩
  | .hbm, ⟨51, _⟩ => ⟨S128x1x11008, .f32⟩
  | .hbm, ⟨52, _⟩ => ⟨S128x1x11008, .f32⟩
  | .hbm, ⟨53, _⟩ => ⟨S1x1x11008, .f32⟩
  | .hbm, ⟨54, _⟩ => ⟨S128x1x11008, .f32⟩
  | .hbm, ⟨55, _⟩ => ⟨S128x1x11008, .f32⟩
  | .hbm, ⟨56, _⟩ => ⟨S128x1x11008, .bf16⟩
  | .hbm, ⟨57, _⟩ => ⟨S128x11008, .bf16⟩
  | _, _ => ⟨S128x1x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Proof.KernelShape.lean ====
/- The kernel's body said again with its repetitions named: one weight tile, the sixteen tiles of a
   block, one product, the 43 copies, one trip of the loop. The last theorem states that this is the printed body. -/
module

public import proofs.«01_k».proof.Proof.Gen.Kernel
public import Idealize.ShloMosaic.Lib.Tactic

@[expose] public section

namespace Cert.Kernel.Shape

open Cert.Kernel
open Idealize.ShloMosaic Idealize.SL.Sem

variable {F : FTy → Type} [BitOps F]
variable [Facts]
open Facts₀ Facts

/-- Programs of the kernel's body. -/
abbrev P (F : FTy → Type) [BitOps F] [Facts] (α : Type) : Type _ := Prog (TpuEff nD τ sig (Elt F) Λ₀ .tc) α

/-- `f 0`, then `f 1`, … . -/
def seqFin : (n : Nat) → (Fin n → P F PUnit) → P F PUnit
  | 0, _ => pure ⟨⟩
  | n + 1, f => f 0 >>= fun _ => seqFin n fun i => f i.succ

/-! ## Values -/

/-- Both bytes of each half word become its low byte. -/
def dupLow (w : IVec S32x256 32) : IVec S32x256 32 :=
  ori (andi w (broadcast S32x256 16711935#32)) (shli (andi w (broadcast S32x256 16711935#32)) (broadcast S32x256 8#32))

/-- The packed bytes of a tile, transposed and read as words. -/
def words (w : IVec S256x128 8) : IVec S32x256 32 :=
  bitcast S32x256 32 (transpose S128x256 [1, 0] w transposes_S256x128_p1_0_S128x256) bitcasts_S128x256_w8_S32x256_w32

/-- The four quarters of a tile's words: the low and high nibbles of the even and of the odd bytes, each twice. -/
def quarter (q : Nat) (w : IVec S32x256 32) : IVec S32x256 32 :=
  match q with
  | 0 => dupLow w
  | 1 => shrsi (dupLow w) (broadcast S32x256 4#32)
  | 2 => dupLow (shrsi w (broadcast S32x256 8#32))
  | _ => shrsi (dupLow (shrsi w (broadcast S32x256 8#32))) (broadcast S32x256 4#32)

/-- The numbers a quarter's nibbles stand for: each byte, its plane number put in the high nibble, looked up in the
    lane table, and the pairs of bytes found read as bf16 numbers. -/
def looked (table : IVec S128x128 32) (plane src : IVec S32x256 32) : FVec F S64x256 .bf16 :=
  have idx : IVec S128x256 32 := extsi 32 (bitcast S128x256 8 (ori (andi src (broadcast S32x256 252645135#32)) (shli plane (broadcast S32x256 4#32))) bitcasts_S32x256_w32_S128x256_w8) natLt_8_32
  have a : IVec S128x128 32 := dynamicGather 1 table (shapeCast S128x128 (shapeCast S128x128x1 (extractStridedSlice S128x128 ![0, 0] idx slices_S128x256_o0_0_S128x128) shapeCasts_S128x128_S128x128x1) shapeCasts_S128x128x1_S128x128)
  have b : IVec S128x128 32 := dynamicGather 1 table (shapeCast S128x128 (shapeCast S128x128x1 (extractStridedSlice S128x128 ![0, 128] idx slices_S128x256_o0_128_S128x128) shapeCasts_S128x128_S128x128x1) shapeCasts_S128x128x1_S128x128)
  bitcastToFloat .bf16 (bitcast S64x256 16 (bitcast S32x256 32 (trunci 8 (concatenate S128x256 1 [⟨S128x128, a⟩, ⟨S128x128, b⟩] concatenates_S128x128_S128x128_S128x256_d1) natLt_8_32) bitcasts_S128x256_w8_S32x256_w32) bitcasts_S32x256_w32_S64x256_w16)

/-- Four rows of scales, each over sixteen rows. -/
def scales (a b c d : FVec F S1x256 .bf16) : FVec F S64x256 .bf16 :=
  concatenate S64x256 0 [⟨S16x256, broadcastTo S16x256 (shapeCast S1x256 a shapeCasts_S1x256_S1x256) broadcasts_S1x256_S16x256⟩, ⟨S16x256, broadcastTo S16x256 (shapeCast S1x256 b shapeCasts_S1x256_S1x256) broadcasts_S1x256_S16x256⟩, ⟨S16x256, broadcastTo S16x256 (shapeCast S1x256 c shapeCasts_S1x256_S1x256) broadcasts_S1x256_S16x256⟩, ⟨S16x256, broadcastTo S16x256 (shapeCast S1x256 d shapeCasts_S1x256_S1x256) broadcasts_S1x256_S16x256⟩] concatenates_S16x256_S16x256_S16x256_S16x256_S64x256_d0

/-- What a quarter stores: its numbers times the scales, rows `2r` and `2r + 1` the halves of the word `r`. -/
def stored (table : IVec S128x128 32) (plane w : IVec S32x256 32) (scale : FVec F S64x256 .bf16) (q : Nat) : Vec F S32x256 .i32 :=
  shapeCast S32x256 (bitcast S32x256 32 (bitcastToInt (mulf (looked table plane (quarter q w)) scale)) bitcasts_S64x256_w16_S32x256_w32) shapeCasts_S32x256_S32x256

/-- The scales of a block of 256 outputs: code times step plus offset, rounded. -/
def absmax (codes : IVec S256x64 8) (s2 : FVec F S1x256 .f32) (off : F .f32) : FVec F S64x256 .bf16 :=
  truncf .bf16 (addf (mulf (sitofp .f32 (transpose S64x256 [1, 0] codes transposes_S256x64_p1_0_S64x256)) (broadcastTo S64x256 (shapeCast S1x256 s2 shapeCasts_S1x256_S1x256) broadcasts_S1x256_S64x256)) (broadcast S64x256 off)) bitsLt_bf16_f32

/-- The adapter's inner product, rounded. -/
def inner (x : FVec F S128x4096 .bf16) (a : FVec F S64x4096 .bf16) : FVec F S128x64 .bf16 :=
  truncf .bf16 (matmul dot_S128x4096_S64x4096_S128x64_1_1_0_0_n_n none (shapeCast S128x4096 x shapeCasts_S128x4096_S128x4096) a (constant S128x64 .f32 0x00000000#32)) bitsLt_bf16_f32

/-- The lane table: the low bytes of the sixteen values, then their high bytes, in each of 128 rows. -/
def laneTable (t : IVec S16x256 16) : IVec S128x128 32 :=
  have bits : IVec S16x256 32 := shli (extsi 32 (shapeCast S16x256 t shapeCasts_S16x256_S16x256) natLt_16_32) (broadcast S16x256 16#32)
  have lo : IVec S16x256 32 := andi (shrsi bits (broadcast S16x256 16#32)) (broadcast S16x256 255#32)
  have hi : IVec S16x256 32 := andi (shrsi bits (broadcast S16x256 24#32)) (broadcast S16x256 255#32)
  concatenate S128x128 1 [⟨S128x32, transpose S128x32 [1, 0] (extsi 32 (extractStridedSlice S32x128 ![0, 0] (trunci 8 (concatenate S32x256 0 [⟨S16x256, lo⟩, ⟨S16x256, hi⟩] concatenates_S16x256_S16x256_S32x256_d0) natLt_8_32) slices_S32x256_o0_0_S32x128) natLt_8_32) transposes_S32x128_p1_0_S128x32⟩, ⟨S128x96, broadcast S128x96 0#32⟩] concatenates_S128x32_S128x96_S128x128_d1

/-- The plane numbers of the bytes of a word: 0, 0, 1, 1 … by bytes (0, 1, 0, 1). -/
def planes : IVec S32x256 32 := broadcast S32x256 16777472#32

/-- A block of 256 columns of the result, from its words of weights. -/
def product (h : FVec F S128x64 .bf16) (wt : Vec F S2048x256 .i32) (xp : FVec F S128x4096 .bf16) (lb : FVec F S256x64 .bf16) (bias : FVec F S1x256 .f32) : FVec F S128x256 .bf16 :=
  truncf .bf16 (addf (addf
      (matmul dot_S128x4096_S4096x256_S128x256_1_0_0_1_n_n none (shapeCast S128x4096 xp shapeCasts_S128x4096_S128x4096)
        (bitcastToFloat .bf16 (bitcast S4096x256 16 wt bitcasts_S2048x256_w32_S4096x256_w16))
        (constant S128x256 .f32 0x00000000#32))
      (mulf (broadcast S128x256 (Scalar.ofBits .f32 0x3E800000#32)) (matmul dot_S128x64_S256x64_S128x256_1_1_0_0_n_n none h lb (constant S128x256 .f32 0x00000000#32))))
    (broadcastTo S128x256 (shapeCast S1x256 bias shapeCasts_S1x256_S1x256) broadcasts_S1x256_S128x256)) bitsLt_bf16_f32

/-! ## Programs -/

section Programs

variable (arg0 : Memref sig .tc .vmem S128x4096 .bf16) (harg0 : arg0.IsWhole) (arg1 : Memref sig .tc .vmem S128x4096 .bf16) (harg1 : arg1.IsWhole) (arg2 : Memref sig .tc .hbm S11008x2048 .i8) (harg2 : arg2.IsWhole) (arg3 : Memref sig .tc .vmem S16x256 .i16) (harg3 : arg3.IsWhole) (arg4 : Memref sig .tc .vmem S11008x64 .i8) (harg4 : arg4.IsWhole) (arg5 : Memref sig .tc .vmem S1x11008 .f32) (harg5 : arg5.IsWhole) (arg6 : Memref sig .tc .smem S1x1 .f32) (harg6 : arg6.IsWhole) (arg7 : Memref sig .tc .vmem S64x4096 .bf16) (harg7 : arg7.IsWhole) (arg8 : Memref sig .tc .vmem S11008x64 .bf16) (harg8 : arg8.IsWhole) (arg9 : Memref sig .tc .vmem S1x11008 .f32) (harg9 : arg9.IsWhole) (arg10 : Memref sig .tc .vmem S128x11008 .bf16) (harg10 : arg10.IsWhole) (arg11 : Memref sig .tc .vmem S11008x2048 .i8) (harg11 : arg11.IsWhole) (arg12 : Memref sig .tc .vmem S2048x256 .i32) (harg12 : arg12.IsWhole) (arg13 : Memref sig .tc .vmem S2048x256 .i32) (harg13 : arg13.IsWhole) (arg14 : Memref sig .tc .vmem S64x256 .bf16) (harg14 : arg14.IsWhole) (arg15 : DmaSems sig S43)

omit [Facts] in
/-- A row of scales is in the buffer. -/
theorem inb14 (kt : Fin 16) (r : Fin 4) : ∀ a, (![4 * kt.val + r.val, 0] : Fin 2 → Nat) a + S1x256.size a ≤ S64x256.size a := by
  intro a
  match a with
  | ⟨0, _⟩ => show 4 * kt.val + r.val + 1 ≤ 64; omega
  | ⟨1, _⟩ => show 0 + 256 ≤ 256; omega

omit [Facts] in
/-- A quarter's 32 pairs of rows are in the buffer. -/
theorem inb12 (kt : Fin 16) (q : Fin 4) : ∀ a, (![128 * kt.val + 32 * q.val, 0] : Fin 2 → Nat) a + S32x256.size a ≤ S2048x256.size a := by
  intro a
  match a with
  | ⟨0, _⟩ => show 128 * kt.val + 32 * q.val + 32 ≤ 2048; omega
  | ⟨1, _⟩ => show 0 + 256 ≤ 256; omega

/-- The row of scales `4 kt + r`. -/
def scaleRow (kt : Fin 16) (r : Fin 4) : P F (Vec F S1x256 .bf16) :=
  Prog.lift (.load arg14 (Rect.unit (s := S64x256) ![4 * kt.val + r.val, 0] S1x256.size (inb14 kt r)).toLoadRect (View.loadsAt_vmem h_S1x256))

/-- A store of quarter `q` of tile `kt` into the weight buffer `wt`, which first reads what is there. -/
def putQuarter (wt : Memref sig .tc .vmem S2048x256 .i32) (hwt : wt.IsWhole) (kt : Fin 16) (q : Fin 4) (v : Vec F S32x256 .i32) : P F PUnit := do
  let _ : Vec F S32x256 .i32 ← Prog.lift (.load wt (Rect.unit (s := S2048x256) ![128 * kt.val + 32 * q.val, 0] S32x256.size (inb12 kt q)).toLoadRect (View.loadsAt_vmem h_S32x256))
  Prog.lift (.store wt (Rect.unit (s := S2048x256) ![128 * kt.val + 32 * q.val, 0] S32x256.size (inb12 kt q)) v Finset.univ (View.stores_vmem_bits_univ h_S32x256 rfl) (.inl rfl))

/-- One tile: 128 packed columns of 256 rows of weights become 128 rows of words. -/
def tile (wt : Memref sig .tc .vmem S2048x256 .i32) (hwt : wt.IsWhole) (table : IVec S128x128 32) (plane : IVec S32x256 32)
    (w : Fin 2 → Nat) (hw : ∀ a, w a + S256x128.size a ≤ S11008x2048.size a) (kt : Fin 16) : P F PUnit := do
  let packed : Vec F S256x128 .i8 ← Prog.lift (.load arg11 (Rect.unit (s := S11008x2048) w S256x128.size hw).toLoadRect (View.loadsAt_vmem h_S256x128))
  let a ← scaleRow arg14 kt 0
  let b ← scaleRow arg14 kt 1
  let c ← scaleRow arg14 kt 2
  let d ← scaleRow arg14 kt 3
  putQuarter wt hwt kt 0 (stored table plane (words packed) (scales a b c d) 0)
  putQuarter wt hwt kt 1 (stored table plane (words packed) (scales a b c d) 1)
  putQuarter wt hwt kt 2 (stored table plane (words packed) (scales a b c d) 2)
  putQuarter wt hwt kt 3 (stored table plane (words packed) (scales a b c d) 3)

/-- A block's scales, left in the scratch buffer. -/
def putScales (o4 : Fin 2 → Nat) (h4 : ∀ a, o4 a + S256x64.size a ≤ S11008x64.size a) (o5 : Fin 2 → Nat) (h5 : ∀ a, o5 a + S1x256.size a ≤ S1x11008.size a) : P F PUnit := do
  let codes : Vec F S256x64 .i8 ← Prog.lift (.load arg4 (Rect.unit (s := S11008x64) o4 S256x64.size h4).toLoadRect (View.loadsAt_vmem h_S256x64))
  let s2 : Vec F S1x256 .f32 ← Prog.lift (.load arg5 (Rect.unit (s := S1x11008) o5 S1x256.size h5).toLoadRect (View.loadsAt_vmem h_S1x256))
  let off : Elt F .f32 ← smemLoad arg6 (Rect.unit (s := S1x1) ![0, 0] S1x1.size inb_S1x1_S1x1_0_0) numel1_S1x1 rfl
  let _ : Vec F S64x256 .bf16 ← Prog.lift (.load arg14 (Rect.unit (s := S64x256) ![0, 0] S64x256.size inb_S64x256_S64x256_0_0).toLoadRect (View.loadsAt_vmem h_S64x256))
  Prog.lift (.store arg14 (Rect.unit (s := S64x256) ![0, 0] S64x256.size inb_S64x256_S64x256_0_0) (shapeCast S64x256 (absmax codes s2 off) shapeCasts_S64x256_S64x256) Finset.univ (View.stores_vmem h_S64x256 (harg14.storeExact_slice rfl _ packedbf16_S64x256_S64x256_0_0) (fun _ => rfl)) (.inl rfl))

/-- One block of 256 rows of weights becomes numbers in `wt`. -/
def dequant (wt : Memref sig .tc .vmem S2048x256 .i32) (hwt : wt.IsWhole) (table : IVec S128x128 32) (plane : IVec S32x256 32)
    (o4 : Fin 2 → Nat) (h4 : ∀ a, o4 a + S256x64.size a ≤ S11008x64.size a) (o5 : Fin 2 → Nat) (h5 : ∀ a, o5 a + S1x256.size a ≤ S1x11008.size a)
    (w : Fin 16 → Fin 2 → Nat) (hw : ∀ kt a, w kt a + S256x128.size a ≤ S11008x2048.size a) : P F PUnit := do
  putScales arg4 arg5 arg6 arg14 harg14 o4 h4 o5 h5
  seqFin 16 fun kt => tile arg11 arg14 wt hwt table plane (w kt) (hw kt) kt

/-- The product of a block. -/
def productValue (wt : Memref sig .tc .vmem S2048x256 .i32) (h : FVec F S128x64 .bf16)
    (o8 : Fin 2 → Nat) (h8 : ∀ a, o8 a + S256x64.size a ≤ S11008x64.size a) (o9 : Fin 2 → Nat) (h9 : ∀ a, o9 a + S1x256.size a ≤ S1x11008.size a) : P F (FVec F S128x256 .bf16) := do
  let weights : Vec F S2048x256 .i32 ← Prog.lift (.load wt (Rect.unit (s := S2048x256) ![0, 0] S2048x256.size inb_S2048x256_S2048x256_0_0).toLoadRect (View.loadsAt_vmem h_S2048x256))
  let xp : Vec F S128x4096 .bf16 ← Prog.lift (.load arg1 (Rect.unit (s := S128x4096) ![0, 0] S128x4096.size inb_S128x4096_S128x4096_0_0).toLoadRect (View.loadsAt_vmem h_S128x4096))
  let lb : Vec F S256x64 .bf16 ← Prog.lift (.load arg8 (Rect.unit (s := S11008x64) o8 S256x64.size h8).toLoadRect (View.loadsAt_vmem h_S256x64))
  let bias : Vec F S1x256 .f32 ← Prog.lift (.load arg9 (Rect.unit (s := S1x11008) o9 S1x256.size h9).toLoadRect (View.loadsAt_vmem h_S1x256))
  pure (product h weights xp lb bias)

/-- A block of the result, stored. -/
def putProduct (v : FVec F S128x256 .bf16) (o10 : Fin 2 → Nat) (h10 : ∀ a, o10 a + S128x256.size a ≤ S128x11008.size a)
    (p10 : (Rect.unit (s := S128x11008) o10 S128x256.size h10).PackedRows (EltTy.packing .bf16)) : P F PUnit := do
  let _ : Vec F S128x256 .bf16 ← Prog.lift (.load arg10 (Rect.unit (s := S128x11008) o10 S128x256.size h10).toLoadRect (View.loadsAt_vmem h_S128x256))
  Prog.lift (.store arg10 (Rect.unit (s := S128x11008) o10 S128x256.size h10) v Finset.univ (View.stores_vmem h_S128x256 (harg10.storeExact_slice rfl _ p10) (fun _ => rfl)) (.inl rfl))

/-- The product of a block, left in the result's columns. -/
def multiply (wt : Memref sig .tc .vmem S2048x256 .i32) (h : FVec F S128x64 .bf16)
    (o8 : Fin 2 → Nat) (h8 : ∀ a, o8 a + S256x64.size a ≤ S11008x64.size a) (o9 : Fin 2 → Nat) (h9 : ∀ a, o9 a + S1x256.size a ≤ S1x11008.size a)
    (o10 : Fin 2 → Nat) (h10 : ∀ a, o10 a + S128x256.size a ≤ S128x11008.size a)
    (p10 : (Rect.unit (s := S128x11008) o10 S128x256.size h10).PackedRows (EltTy.packing .bf16)) : P F PUnit := do
  let v ← productValue arg1 arg8 arg9 wt h o8 h8 o9 h9
  putProduct arg10 harg10 v o10 h10 p10

/-- The wait for the copy of the rows at `o2`, on the cell at `o1`. -/
def await (o1 : Fin 1 → Nat) (h1 : ∀ a, o1 a + S1.size a ≤ S43.size a) (o2 : Fin 2 → Nat) (h2 : ∀ a, o2 a + S256x2048.size a ≤ S11008x2048.size a)
    (w2 : (Rect.unit (s := S11008x2048) o2 S256x2048.size h2).WholeWords (EltTy.packing .i8)) : P F PUnit :=
  Prog.lift (.waitDma2 ((arg15.slice (Rect.unit (s := S43) o1 S1.size h1)).squeeze S_ squeezes_S1_S_).sem
    (arg2.slice (Rect.unit (s := S11008x2048) o2 S256x2048.size h2) (fun _ => rfl))
    (arg11.slice (Rect.unit (s := S11008x2048) o2 S256x2048.size h2) (fun _ => rfl))
    (harg2.wordExact_slice rfl _ w2) (harg11.wordExact_slice rfl _ w2))

omit [Facts] in
/-- A block's cell. -/
theorem inb15 (i : Fin 43) : ∀ a, (![i.val] : Fin 1 → Nat) a + S1.size a ≤ S43.size a := by
  intro a
  match a with
  | ⟨0, _⟩ => show i.val + 1 ≤ 43; omega

omit [Facts] in
/-- A block's rows. -/
theorem inb2 (i : Fin 43) : ∀ a, (![256 * i.val, 0] : Fin 2 → Nat) a + S256x2048.size a ≤ S11008x2048.size a := by
  intro a
  match a with
  | ⟨0, _⟩ => show 256 * i.val + 256 ≤ 11008; omega
  | ⟨1, _⟩ => show 0 + 2048 ≤ 2048; omega

omit [Facts] in
/-- A block's rows are whole words. -/
theorem words2 (i : Fin 43) : (Rect.unit (s := S11008x2048) ![256 * i.val, 0] S256x2048.size (inb2 i)).WholeWords (EltTy.packing .i8) := by
  revert i; decide +kernel

/-- The copy of block `i`'s rows into VMEM, on its own cell. -/
def fetch (i : Fin 43) : P F PUnit :=
  Prog.lift (.enqueueDma (arg2.slice (Rect.unit (s := S11008x2048) ![256 * i.val, 0] S256x2048.size (inb2 i)) (fun _ => rfl))
    (.here (arg11.slice (Rect.unit (s := S11008x2048) ![256 * i.val, 0] S256x2048.size (inb2 i)) (fun _ => rfl)))
    (.dma ((arg15.slice (Rect.unit (s := S43) ![i.val] S1.size (inb15 i))).squeeze S_ squeezes_S1_S_).sem)
    (harg2.wordExact_slice rfl _ (words2 i)) (harg11.wordExact_slice rfl _ (words2 i)) ⟨Or.inl rfl, trivial⟩)

/-- Where the sixteen tiles of block `2 t + c` of trip `t` are. -/
def tileOff (t : Fin k0_t1_loop.trips) (c : BitVec 32) : Fin 16 → Fin 2 → Nat :=
  ![k0_off8 t c, k0_off9 t c, k0_off10 t c, k0_off11 t c, k0_off12 t c, k0_off13 t c, k0_off14 t c, k0_off15 t c,
    k0_off16 t c, k0_off17 t c, k0_off18 t c, k0_off19 t c, k0_off20 t c, k0_off21 t c, k0_off22 t c, k0_off23 t c]

/-- They are in the buffer. -/
theorem tileOff_inb (t : Fin k0_t1_loop.trips) (r : Fin 2) :
    ∀ kt a, tileOff t (BitVec.ofNat 32 (1 + r.val)) kt a + S256x128.size a ≤ S11008x2048.size a := by
  intro kt
  match kt with
  | ⟨0, _⟩ => exact k0_off8_inb t r
  | ⟨1, _⟩ => exact k0_off9_inb t r
  | ⟨2, _⟩ => exact k0_off10_inb t r
  | ⟨3, _⟩ => exact k0_off11_inb t r
  | ⟨4, _⟩ => exact k0_off12_inb t r
  | ⟨5, _⟩ => exact k0_off13_inb t r
  | ⟨6, _⟩ => exact k0_off14_inb t r
  | ⟨7, _⟩ => exact k0_off15_inb t r
  | ⟨8, _⟩ => exact k0_off16_inb t r
  | ⟨9, _⟩ => exact k0_off17_inb t r
  | ⟨10, _⟩ => exact k0_off18_inb t r
  | ⟨11, _⟩ => exact k0_off19_inb t r
  | ⟨12, _⟩ => exact k0_off20_inb t r
  | ⟨13, _⟩ => exact k0_off21_inb t r
  | ⟨14, _⟩ => exact k0_off22_inb t r
  | ⟨15, _⟩ => exact k0_off23_inb t r
  | ⟨n + 16, h⟩ => omega

/-- One trip: two blocks arrive; the product of the block in `wt_a`; the next block into `wt_b`; its product; the
    block after into `wt_a`. -/
def trip (h : FVec F S128x64 .bf16) (table : IVec S128x128 32) (plane : IVec S32x256 32) (t : Fin k0_t1_loop.trips) : P F PUnit := do
  await arg2 harg2 arg11 harg11 arg15 (k0_off1 t 1#32) (k0_off1_inb t 0) (k0_off2 t 1#32) (k0_off2_inb t 0) (k0_off2_wordsi8 t 0)
  await arg2 harg2 arg11 harg11 arg15 (k0_off1 t 2#32) (k0_off1_inb t 1) (k0_off2 t 2#32) (k0_off2_inb t 1) (k0_off2_wordsi8 t 1)
  multiply arg1 arg8 arg9 arg10 harg10 arg12 h (k0_off3 t) (k0_off3_inb t) (k0_off4 t) (k0_off4_inb t) (k0_off5 t) (k0_off5_inb t) (k0_off5_packedbf16 t)
  dequant arg4 arg5 arg6 arg11 arg14 harg14 arg13 harg13 table plane (k0_off6 t 1#32) (k0_off6_inb t 0) (k0_off7 t 1#32) (k0_off7_inb t 0) (tileOff t 1#32) (tileOff_inb t 0)
  multiply arg1 arg8 arg9 arg10 harg10 arg13 h (k0_off6 t 1#32) (k0_off6_inb t 0) (k0_off7 t 1#32) (k0_off7_inb t 0) (k0_off24 t) (k0_off24_inb t) (k0_off24_packedbf16 t)
  dequant arg4 arg5 arg6 arg11 arg14 harg14 arg12 harg12 table plane (k0_off6 t 2#32) (k0_off6_inb t 1) (k0_off7 t 2#32) (k0_off7_inb t 1) (tileOff t 2#32) (tileOff_inb t 1)

omit [Facts] in
/-- Where the sixteen tiles of the first block are. -/
theorem inb11 (kt : Fin 16) : ∀ a, (![0, 128 * kt.val] : Fin 2 → Nat) a + S256x128.size a ≤ S11008x2048.size a := by
  intro a
  match a with
  | ⟨0, _⟩ => show 0 + 256 ≤ 11008; omega
  | ⟨1, _⟩ => show 128 * kt.val + 128 ≤ 2048; omega

/-- The whole body. -/
def body : P F PUnit := do
  seqFin 43 (fetch arg2 harg2 arg11 harg11 arg15)
  let x : Vec F S128x4096 .bf16 ← Prog.lift (.load arg0 (Rect.unit (s := S128x4096) ![0, 0] S128x4096.size inb_S128x4096_S128x4096_0_0).toLoadRect (View.loadsAt_vmem h_S128x4096))
  let la : Vec F S64x4096 .bf16 ← Prog.lift (.load arg7 (Rect.unit (s := S64x4096) ![0, 0] S64x4096.size inb_S64x4096_S64x4096_0_0).toLoadRect (View.loadsAt_vmem h_S64x4096))
  let t : Vec F S16x256 .i16 ← Prog.lift (.load arg3 (Rect.unit (s := S16x256) ![0, 0] S16x256.size inb_S16x256_S16x256_0_0).toLoadRect (View.loadsAt_vmem h_S16x256))
  await arg2 harg2 arg11 harg11 arg15 ![0] inb_S43_S1_0 ![0, 0] inb_S11008x2048_S256x2048_0_0 wordsi8_S11008x2048_S256x2048_0_0
  dequant arg4 arg5 arg6 arg11 arg14 harg14 arg12 harg12 (laneTable t) planes ![0, 0] inb_S11008x64_S256x64_0_0 ![0, 0] inb_S1x11008_S1x256_0_0 (fun kt => ![0, 128 * kt.val]) inb11
  Scf.Loop.for k0_t1_loop k0_t1_ok ⟨⟩ fun k0_t1 _ => trip arg1 arg2 harg2 arg4 arg5 arg6 arg8 arg9 arg10 harg10 arg11 harg11 arg12 harg12 arg13 harg13 arg14 harg14 arg15 (inner x la) (laneTable t) planes k0_t1
  multiply arg1 arg8 arg9 arg10 harg10 arg12 (inner x la) ![10752, 0] inb_S11008x64_S256x64_10752_0 ![0, 10752] inb_S1x11008_S1x256_0_10752 ![0, 10752] inb_S128x11008_S128x256_0_10752 packedbf16_S128x11008_S128x256_0_10752

/-- The whole body, its last steps grouped as they are printed. -/
def grouped : P F PUnit :=
  (do
    seqFin 43 (fetch arg2 harg2 arg11 harg11 arg15)
    let x : Vec F S128x4096 .bf16 ← Prog.lift (.load arg0 (Rect.unit (s := S128x4096) ![0, 0] S128x4096.size inb_S128x4096_S128x4096_0_0).toLoadRect (View.loadsAt_vmem h_S128x4096))
    let la : Vec F S64x4096 .bf16 ← Prog.lift (.load arg7 (Rect.unit (s := S64x4096) ![0, 0] S64x4096.size inb_S64x4096_S64x4096_0_0).toLoadRect (View.loadsAt_vmem h_S64x4096))
    let t : Vec F S16x256 .i16 ← Prog.lift (.load arg3 (Rect.unit (s := S16x256) ![0, 0] S16x256.size inb_S16x256_S16x256_0_0).toLoadRect (View.loadsAt_vmem h_S16x256))
    await arg2 harg2 arg11 harg11 arg15 ![0] inb_S43_S1_0 ![0, 0] inb_S11008x2048_S256x2048_0_0 wordsi8_S11008x2048_S256x2048_0_0
    dequant arg4 arg5 arg6 arg11 arg14 harg14 arg12 harg12 (laneTable t) planes ![0, 0] inb_S11008x64_S256x64_0_0 ![0, 0] inb_S1x11008_S1x256_0_0 (fun kt => ![0, 128 * kt.val]) inb11
    (Scf.Loop.for k0_t1_loop k0_t1_ok ⟨⟩ fun k0_t1 _ => trip arg1 arg2 harg2 arg4 arg5 arg6 arg8 arg9 arg10 harg10 arg11 harg11 arg12 harg12 arg13 harg13 arg14 harg14 arg15 (inner x la) (laneTable t) planes k0_t1) >>= fun _ =>
      productValue arg1 arg8 arg9 arg12 (inner x la) ![10752, 0] inb_S11008x64_S256x64_10752_0 ![0, 10752] inb_S1x11008_S1x256_0_10752 >>= fun v => pure (⟨10752#32, v⟩ : Σ' (_ : BitVec 32), FVec F S128x256 .bf16)) >>= fun p =>
    putProduct arg10 harg10 p.2 ![0, 10752] inb_S128x11008_S128x256_0_10752 packedbf16_S128x11008_S128x256_0_10752

set_option maxRecDepth 100000 in
/-- The grouped body is the printed one. -/
theorem grouped_eq : cc0__body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15
    = grouped arg0 arg1 arg2 harg2 arg3 arg4 arg5 arg6 arg7 arg8 arg9 arg10 harg10 arg11 harg11 arg12 harg12 arg13 harg13 arg14 harg14 arg15 := by
  sl_kernel_rfl

/-- The body is the printed one. -/
theorem body_eq : cc0__body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15
    = body arg0 arg1 arg2 harg2 arg3 arg4 arg5 arg6 arg7 arg8 arg9 arg10 harg10 arg11 harg11 arg12 harg12 arg13 harg13 arg14 harg14 arg15 := by
  rw [grouped_eq]
  unfold grouped body multiply
  simp only [Prog.bind_assoc]
  rfl

end Programs

end Cert.Kernel.Shape
-- ==== Proof.Rules.lean ====
/- Rules for reading, writing and copying memrefs that are owned at contents as read through them, and for families of
   resources one of which changes at a time. -/
module

public import Idealize.ShloMosaic.Lib.Transfers
public import Idealize.ShloMosaic.Lib.MemrefSat
public import Idealize.ShloMosaic.Lib.Tactic
public import Idealize.ShloMosaic.Lib.Ring

@[expose] public section

namespace Cert.Rules

open Idealize.ShloMosaic Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl] {Λ : Labels} {defs : Defs nD τ sig Val Λ}

local notation "𝕄" => MT nD τ sig Ix Val Name U Lvl

section Steps

variable (𝒱 : Variants) (c : Thread nD τ) (bd : Option 𝒱.V) {α : Type} {Q : α → sProp (MT nD τ sig Ix Val Name U Lvl)}
variable {s : Shape} {e : EltTy}

/-- A load of a rectangle of an owned memref gives the contents there. -/
theorem own_load {cs : CoreSpace} {m : Memref sig c.2.kind cs s e} {r : Rect s} {hl : m.view.LoadsAt r.toLoadRect}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) Set.univ (k fun j => X (r.emb j)) Q)
        -∗ wp frame (wpE defs 𝒱 c bd) Set.univ (.op (.load m r.toLoadRect hl) k) Q) := by
  unfold owns
  iintro ⟨%f, %hf, H⟩ Hk
  subst hf
  iapply (wp_load_rect 𝒱 c bd Set.univ (m := m) (r := r) (S := m.view.set) (f := f) (View.set_slice_subset m.view r)) $$ H
  iintro H
  iapply Hk
  iexists f; isplitr
  · ipureintro; rfl
  · iexact H

/-- The same of a memref of whose contents `Φ` is known. -/
theorem own_load_sat {cs : CoreSpace} {m : Memref sig c.2.kind cs s e} {r : Rect s} {hl : m.view.LoadsAt r.toLoadRect}
    {k : (r.shape.Idx → Val e) → Prog (TpuEff nD τ sig Val Λ c.2) α} {q : PosShare TreeShare} {Φ : (s.Idx → Val e) → Prop} :
    (ownsSat c m q Φ : sProp 𝕄)
      ⊢ iprop((∀ X, owns c m q X -∗ ⌜Φ X⌝ -∗ wp frame (wpE defs 𝒱 c bd) Set.univ (k fun j => X (r.emb j)) Q)
        -∗ wp frame (wpE defs 𝒱 c bd) Set.univ (.op (.load m r.toLoadRect hl) k) Q) := by
  refine (ownsSat_elim c m q Φ).trans ?_
  iintro ⟨%X, %hX, H⟩ Hk
  iapply (own_load 𝒱 c bd) $$ H
  iintro H
  iapply Hk $$ %X H
  ipureintro; exact hX

/-- A load inside an owned slice of a memref. -/
theorem own_load_slice {cs : CoreSpace} {m : Memref sig c.2.kind cs s e} {r ρ : Rect s} {hρ : ∀ a, ρ.stride a = 1} {hl : m.view.LoadsAt r.toLoadRect}
    {k : (r.shape.Idx → Val e) → Prog (TpuEff nD τ sig Val Λ c.2) α} {q : PosShare TreeShare} {X : s.Idx → Val e}
    (g : r.shape.Idx → ρ.shape.Idx) (hg : ∀ j, r.emb j = ρ.emb (g j)) :
    (owns c (m.slice ρ hρ) q (fun j => X (ρ.emb j)) : sProp 𝕄)
      ⊢ iprop((owns c (m.slice ρ hρ) q (fun j => X (ρ.emb j)) -∗ wp frame (wpE defs 𝒱 c bd) Set.univ (k fun j => X (r.emb j)) Q)
        -∗ wp frame (wpE defs 𝒱 c bd) Set.univ (.op (.load m r.toLoadRect hl) k) Q) := by
  unfold owns
  iintro ⟨%f, %hf, H⟩ Hk
  have hsub : (m.access r).set ⊆ (m.slice ρ hρ).view.set := by
    show (m.view.slice r).set ⊆ (m.view.slice ρ).set
    rw [View.set_slice, View.set_slice]
    refine Finset.map_subset_map.mpr ?_
    intro i hi
    obtain ⟨j, rfl⟩ := r.toLoadRect.exists_idx_of_mem hi
    rw [show r.toLoadRect.idx j = r.emb j from rfl, hg j]
    exact ρ.toLoadRect.idx_mem (g j)
  have hv : (m.access r).read Val f = fun j => X (r.emb j) := by
    funext j
    rw [hg]
    exact (show (m.access r).read Val f j = m.view.read Val f (r.emb j) from rfl).trans
      ((congrArg (m.view.read Val f) (hg j)).trans (congrFun hf (g j)))
  iapply (wp_load_rect 𝒱 c bd Set.univ hsub) $$ H
  iintro H
  rw [hv]
  iapply Hk
  iexists f; isplitr
  · ipureintro; exact hf
  · iexact H

/-- A store into a rectangle of an owned memref changes the contents there and nowhere else. -/
theorem own_store {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {Φ Ψ : (s.Idx → Val e) → Prop}
    (h : ∀ X Y, Φ X → (∀ j, Y (r.emb j) = w j) → (∀ i, (∀ j, r.emb j ≠ i) → Y i = X i) → Ψ Y) :
    (ownsSat c m fullShare Φ : sProp 𝕄)
      ⊢ iprop((ownsSat c m fullShare Ψ -∗ wp frame (wpE defs 𝒱 c bd) Set.univ (k ⟨⟩) Q)
        -∗ wp frame (wpE defs 𝒱 c bd) Set.univ (.op (.store m r w Finset.univ hx hm) k) Q) := by
  unfold ownsSat
  iintro ⟨%f, %hf, H⟩ Hk
  iapply (wp_store 𝒱 c bd Set.univ (show (m.access r).setOn Finset.univ ⊆ m.view.set from View.set_slice_subset m.view r)) $$ H
  iintro H
  iapply Hk
  iexists _; isplitr
  swap
  · iexact H
  · ipureintro
    refine h _ _ hf (fun j => ?_) (fun i hi => ?_)
    · exact congrFun (View.read_write_univ (v := m.access r) f w) j
    · rw [View.read_apply, View.read_apply]
      refine congrArg _ ?_
      refine View.write_of_not_mem (v := m.access r) f w Finset.univ ?_
      intro hmem
      obtain ⟨j, -, hj⟩ := Finset.mem_map.mp hmem
      exact hi j (m.view.emb.injective hj)

/-- A copy between two owned memrefs, on a cell at zero: in flight, it delivers both owned at the source's contents. -/
theorem own_copy (EC : UEmb Counters (MT nD τ sig Ix Val Name U Lvl)) [Infinite Name] [EC.LandsIn (upEmb : UEmb _ 𝕄)] {sp sp' : Space}
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X : s.Idx → Val e}
    (ι : Ix) (N : ℕ) (hN : dst.view.amount sm = N) (hN0 : 0 < N) :
    iprop(owns c src q X ∗ (∃ Y, owns c dst fullShare Y) ∗ semVal (c, sm) 0)
      ⊢ iprop((Flight EC c sm ι N iprop(owns c dst fullShare X ∗ owns c src q X)
              -∗ wp frame (wpE defs 𝒱 c bd) Set.univ (k ⟨⟩) Q)
          -∗ wp frame (wpE defs 𝒱 c bd) Set.univ (.op (.enqueueDma src (.here dst) sm hsrc hdst hsem) k) Q) := by
  unfold owns
  iintro ⟨⟨%fs, %hfs, Hs⟩, ⟨%Y, %fd, -, Hd⟩, Hv⟩ Hk
  iapply (wp_dmaLocal EC 𝒱 c bd ι N hN hN0 (Finset.Subset.refl dst.view.set)) $$ [Hs Hd Hv]
  · isplitl [Hs]; · iexact Hs
    isplitl [Hd]; · iexact Hd
    iexact Hv
  iintro Hf
  iapply Hk
  iapply (Flight_mono EC c ?_) $$ Hf
  iintro ⟨Hd, Hs⟩
  isplitl [Hd]
  · iexists _; isplitr
    swap
    · iexact Hd
    · ipureintro
      exact (View.read_write_univ (v := dst.view) fd _).trans hfs
  · iexists fs; isplitr
    · ipureintro; exact hfs
    · iexact Hs

end Steps

/-! ## Families one of whose members changes at a time -/

section Families

variable {M : Type} [URA M] {n : Nat}

/-- A family is one member and the rest. -/
theorem take (A : Fin n → sProp M) (i : Fin n) : bigSep Finset.univ A = iprop(A i ∗ bigSep (Finset.univ.erase i) A) :=
  BI.bigSep_erase (Finset.mem_univ i)

/-- The members below `k` have changed from `A` to `B`. -/
def step (A B : Fin n → sProp M) (k : Nat) : sProp M :=
  bigSep Finset.univ fun i => if i.val < k then B i else A i

theorem step_zero (A B : Fin n → sProp M) : step A B 0 = bigSep Finset.univ A := by
  unfold step; congr 1

theorem step_all (A B : Fin n → sProp M) : step A B n = bigSep Finset.univ B := by
  unfold step; congr 1; funext i; exact if_pos i.isLt

/-- The next member is taken, and given back changed. -/
theorem step_next (A B : Fin n → sProp M) (i : Fin n) :
    step A B i.val ⊢ iprop(A i ∗ (B i -∗ step A B (i.val + 1))) := by
  unfold step
  rw [take (fun j => if j.val < i.val then B j else A j) i, take (fun j => if j.val < i.val + 1 then B j else A j) i]
  rw [if_neg (lt_irrefl _), if_pos (Nat.lt_succ_self _)]
  have h : bigSep (Finset.univ.erase i) (fun j => if j.val < i.val then B j else A j)
      = bigSep (Finset.univ.erase i) (fun j => if j.val < i.val + 1 then B j else A j) := by
    refine BI.bigSep_congr fun j hj => ?_
    have hne : j.val ≠ i.val := fun hv => (Finset.mem_erase.mp hj).1 (Fin.ext hv)
    by_cases hlt : j.val < i.val
    · rw [if_pos hlt, if_pos (by omega)]
    · rw [if_neg hlt, if_neg (by omega)]
  rw [h]
  iintro ⟨HA, Hr⟩
  isplitl [HA]; · iexact HA
  iintro HB
  isplitl [HB] <;> iassumption

/-- A changed member is borrowed. -/
theorem step_peek (A B : Fin n → sProp M) (k : Nat) (i : Fin n) (hi : i.val < k) :
    step A B k ⊢ iprop(B i ∗ (B i -∗ step A B k)) := by
  unfold step
  rw [take _ i]
  rw [if_pos hi]
  iintro ⟨HA, Hr⟩
  isplitl [HA]; · iexact HA
  iintro HB
  isplitl [HB] <;> iassumption

end Families

end Cert.Rules
-- ==== Proof.KernelRun.lean ====
/- What the kernel's body does, step by step: which contents each step leaves in which buffer. The last
   theorem states the whole body: from its operands it leaves, in the result, every block of 256 columns the product of
   the block's dequantised weights. -/
module

public import proofs.«01_k».proof.Proof.KernelShape
public import proofs.«01_k».proof.Proof.Rules
public import Idealize.ShloMosaic.Lib.Pipeline.FrameBody
public import Idealize.ShloMosaic.Lib.Scf

@[expose] public section

noncomputable section

namespace Cert.Kernel.Run

open Cert.Kernel Cert.Kernel.Shape Cert.Rules
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [BitOps F]
variable [Facts]
open Facts₀ Facts

local notation "𝕄" => MT nD τ sig Unit (Elt F) ℕ (Pipeline.UD sig nD τ) ℕ

/-! ## Contents -/

omit [Facts] in
/-- A block's rows of codes, or of the adapter, are in the array. -/
theorem inb4 (b : Fin 43) : ∀ a, (![256 * b.val, 0] : Fin 2 → Nat) a + S256x64.size a ≤ S11008x64.size a := by
  intro a
  match a with
  | ⟨0, _⟩ => show 256 * b.val + 256 ≤ 11008; omega
  | ⟨1, _⟩ => show 0 + 64 ≤ 64; omega

omit [Facts] in
/-- A block's steps, or biases, are in the array. -/
theorem inb5 (b : Fin 43) : ∀ a, (![0, 256 * b.val] : Fin 2 → Nat) a + S1x256.size a ≤ S1x11008.size a := by
  intro a
  match a with
  | ⟨0, _⟩ => show 0 + 1 ≤ 1; omega
  | ⟨1, _⟩ => show 256 * b.val + 256 ≤ 11008; omega

omit [Facts] in
/-- A block's columns are in the result. -/
theorem inb10 (b : Fin 43) : ∀ a, (![0, 256 * b.val] : Fin 2 → Nat) a + S128x256.size a ≤ S128x11008.size a := by
  intro a
  match a with
  | ⟨0, _⟩ => show 0 + 128 ≤ 128; omega
  | ⟨1, _⟩ => show 256 * b.val + 256 ≤ 11008; omega

omit [Facts] in
/-- A tile is in the packed weights. -/
theorem inbTile (b : Fin 43) (kt : Fin 16) : ∀ a, (![256 * b.val, 128 * kt.val] : Fin 2 → Nat) a + S256x128.size a ≤ S11008x2048.size a := by
  intro a
  match a with
  | ⟨0, _⟩ => show 256 * b.val + 256 ≤ 11008; omega
  | ⟨1, _⟩ => show 128 * kt.val + 128 ≤ 2048; omega

/-- A block's scales. -/
def scaleOf (X4 : IVec S11008x64 8) (X5 : FVec F S1x11008 .f32) (X6 : FVec F S1x1 .f32) (b : Fin 43) : FVec F S64x256 .bf16 :=
  shapeCast S64x256 (absmax (fun j => X4 ((Rect.unit (s := S11008x64) ![256 * b.val, 0] S256x64.size (inb4 b)).emb j))
    (fun j => X5 ((Rect.unit (s := S1x11008) ![0, 256 * b.val] S1x256.size (inb5 b)).emb j))
    (X6 ((Rect.unit (s := S1x1) ![0, 0] S1x1.size inb_S1x1_S1x1_0_0).emb (Shape.Idx.first (numel1_S1x1.symm ▸ Nat.one_pos))))) shapeCasts_S64x256_S64x256

/-- A row of scales. -/
def rowOf (sc : FVec F S64x256 .bf16) (kt : Fin 16) (r : Fin 4) : FVec F S1x256 .bf16 :=
  fun j => sc ((Rect.unit (s := S64x256) ![4 * kt.val + r.val, 0] S1x256.size (inb14 kt r)).emb j)

/-- What quarter `q` of tile `kt` of block `b` stores. -/
def quarterOf (table : IVec S128x128 32) (plane : IVec S32x256 32) (W : IVec S11008x2048 8) (sc : FVec F S64x256 .bf16)
    (b : Fin 43) (kt : Fin 16) (q : Nat) : Vec F S32x256 .i32 :=
  stored table plane (words fun j => W ((Rect.unit (s := S11008x2048) ![256 * b.val, 128 * kt.val] S256x128.size (inbTile b kt)).emb j))
    (scales (rowOf sc kt 0) (rowOf sc kt 1) (rowOf sc kt 2) (rowOf sc kt 3)) q

/-- A place of the weight buffer, inside its quarter. -/
def inQuarter (i : S2048x256.Idx) : S32x256.Idx := fun
  | ⟨0, _⟩ => ⟨(i 0).val % 32, Nat.mod_lt _ (by decide)⟩
  | ⟨1, _⟩ => ⟨(i 1).val, (i 1).isLt⟩

omit [Facts] in
theorem tile_lt (i : S2048x256.Idx) : (i 0).val / 128 < 16 := by
  have h : (i 0).val < 2048 := (i 0).isLt
  omega

/-- A block's weights. -/
def wtOf (table : IVec S128x128 32) (plane : IVec S32x256 32) (W : IVec S11008x2048 8) (sc : FVec F S64x256 .bf16)
    (b : Fin 43) : Vec F S2048x256 .i32 := fun i =>
  quarterOf table plane W sc b ⟨(i 0).val / 128, tile_lt i⟩ ((i 0).val / 32 % 4) (inQuarter i)

/-- The columns of the result that block `b` gives, from its weights. -/
def columnsOf (h : FVec F S128x64 .bf16) (wt : Vec F S2048x256 .i32) (X1 : FVec F S128x4096 .bf16) (X8 : FVec F S11008x64 .bf16)
    (X9 : FVec F S1x11008 .f32) (b : Fin 43) : FVec F S128x256 .bf16 :=
  product h (fun j => wt ((Rect.unit (s := S2048x256) ![0, 0] S2048x256.size inb_S2048x256_S2048x256_0_0).emb j))
    (fun j => X1 ((Rect.unit (s := S128x4096) ![0, 0] S128x4096.size inb_S128x4096_S128x4096_0_0).emb j))
    (fun j => X8 ((Rect.unit (s := S11008x64) ![256 * b.val, 0] S256x64.size (inb4 b)).emb j))
    (fun j => X9 ((Rect.unit (s := S1x11008) ![0, 256 * b.val] S1x256.size (inb5 b)).emb j))

omit [Facts] in
theorem block_lt (i : S128x11008.Idx) : (i 1).val / 256 < 43 := by
  have h : (i 1).val < 11008 := (i 1).isLt
  omega

/-- A place of the result, inside its block. -/
def inBlock (i : S128x11008.Idx) : S128x256.Idx := fun
  | ⟨0, _⟩ => ⟨(i 0).val, (i 0).isLt⟩
  | ⟨1, _⟩ => ⟨(i 1).val % 256, Nat.mod_lt _ (by decide)⟩

/-- The result. -/
def outOf (h : FVec F S128x64 .bf16) (wt : Fin 43 → Vec F S2048x256 .i32) (X1 : FVec F S128x4096 .bf16) (X8 : FVec F S11008x64 .bf16)
    (X9 : FVec F S1x11008 .f32) : FVec F S128x11008 .bf16 := fun i =>
  columnsOf h (wt ⟨(i 1).val / 256, block_lt i⟩) X1 X8 X9 ⟨(i 1).val / 256, block_lt i⟩ (inBlock i)

/-- `X` has the first `n` quarters of `Y`. -/
def Upto (n : Nat) (Y X : Vec F S2048x256 .i32) : Prop := ∀ i, (i 0).val < 32 * n → X i = Y i

/-- `X` has the first `n` blocks of columns of `Y`. -/
def Columns (n : Nat) (Y X : FVec F S128x11008 .bf16) : Prop := ∀ i, (i 1).val < 256 * n → X i = Y i

/-- A quarter stored brings the weights one quarter further. -/
theorem upto_succ (table : IVec S128x128 32) (plane : IVec S32x256 32) (W : IVec S11008x2048 8) (sc : FVec F S64x256 .bf16) (b : Fin 43)
    (kt : Fin 16) (q : Fin 4) (X Y : Vec F S2048x256 .i32) (hX : Upto (4 * kt.val + q.val) (wtOf table plane W sc b) X)
    (hY : ∀ j, Y ((Rect.unit (s := S2048x256) ![128 * kt.val + 32 * q.val, 0] S32x256.size (inb12 kt q)).emb j) = quarterOf table plane W sc b kt q.val j)
    (hr : ∀ i, (∀ j, (Rect.unit (s := S2048x256) ![128 * kt.val + 32 * q.val, 0] S32x256.size (inb12 kt q)).emb j ≠ i) → Y i = X i) :
    Upto (4 * kt.val + q.val + 1) (wtOf table plane W sc b) Y := by
  intro i hi
  by_cases hlt : (i 0).val < 32 * (4 * kt.val + q.val)
  · rw [hr i ?_]
    · exact hX i hlt
    · rintro j rfl
      have h0 : ((Rect.unit (s := S2048x256) ![128 * kt.val + 32 * q.val, 0] S32x256.size (inb12 kt q)).emb j 0).val = 128 * kt.val + 32 * q.val + 1 * (j 0).val := rfl
      rw [h0] at hlt
      omega
  · have he : (Rect.unit (s := S2048x256) ![128 * kt.val + 32 * q.val, 0] S32x256.size (inb12 kt q)).emb (inQuarter i) = i := by
      funext a
      refine Fin.ext ?_
      match a with
      | ⟨0, _⟩ => show 128 * kt.val + 32 * q.val + 1 * ((i 0).val % 32) = (i 0).val; omega
      | ⟨1, _⟩ => show 0 + 1 * (i 1).val = (i 1).val; omega
    have h1 := hY (inQuarter i)
    rw [he] at h1
    rw [h1]
    unfold wtOf
    have hk : (⟨(i 0).val / 128, tile_lt i⟩ : Fin 16) = kt := Fin.ext (by show (i 0).val / 128 = kt.val; omega)
    have hq : (i 0).val / 32 % 4 = q.val := by omega
    rw [hk, hq]

/-- A block stored brings the result one block further. -/
theorem columns_succ (h : FVec F S128x64 .bf16) (wt : Fin 43 → Vec F S2048x256 .i32) (X1 : FVec F S128x4096 .bf16) (X8 : FVec F S11008x64 .bf16)
    (X9 : FVec F S1x11008 .f32) (b : Fin 43) (X Y : FVec F S128x11008 .bf16) (hX : Columns b.val (outOf h wt X1 X8 X9) X)
    (hY : ∀ j, Y ((Rect.unit (s := S128x11008) ![0, 256 * b.val] S128x256.size (inb10 b)).emb j) = columnsOf h (wt b) X1 X8 X9 b j)
    (hr : ∀ i, (∀ j, (Rect.unit (s := S128x11008) ![0, 256 * b.val] S128x256.size (inb10 b)).emb j ≠ i) → Y i = X i) :
    Columns (b.val + 1) (outOf h wt X1 X8 X9) Y := by
  intro i hi
  by_cases hlt : (i 1).val < 256 * b.val
  · rw [hr i ?_]
    · exact hX i hlt
    · rintro j rfl
      have h0 : ((Rect.unit (s := S128x11008) ![0, 256 * b.val] S128x256.size (inb10 b)).emb j 1).val = 256 * b.val + 1 * (j 1).val := rfl
      rw [h0] at hlt
      omega
  · have he : (Rect.unit (s := S128x11008) ![0, 256 * b.val] S128x256.size (inb10 b)).emb (inBlock i) = i := by
      funext a
      refine Fin.ext ?_
      match a with
      | ⟨0, _⟩ => show 0 + 1 * (i 0).val = (i 0).val; omega
      | ⟨1, _⟩ => show 256 * b.val + 1 * ((i 1).val % 256) = (i 1).val; omega
    have h1 := hY (inBlock i)
    rw [he] at h1
    rw [h1]
    unfold outOf
    have hb : (⟨(i 1).val / 256, block_lt i⟩ : Fin 43) = b := Fin.ext (by show (i 1).val / 256 = b.val; omega)
    rw [hb]

/-! ## Steps -/

section Steps

variable (c : Dev nD)
variable (arg0 : Memref sig .tc .vmem S128x4096 .bf16) (harg0 : arg0.IsWhole) (arg1 : Memref sig .tc .vmem S128x4096 .bf16) (harg1 : arg1.IsWhole) (arg2 : Memref sig .tc .hbm S11008x2048 .i8) (harg2 : arg2.IsWhole) (arg3 : Memref sig .tc .vmem S16x256 .i16) (harg3 : arg3.IsWhole) (arg4 : Memref sig .tc .vmem S11008x64 .i8) (harg4 : arg4.IsWhole) (arg5 : Memref sig .tc .vmem S1x11008 .f32) (harg5 : arg5.IsWhole) (arg6 : Memref sig .tc .smem S1x1 .f32) (harg6 : arg6.IsWhole) (arg7 : Memref sig .tc .vmem S64x4096 .bf16) (harg7 : arg7.IsWhole) (arg8 : Memref sig .tc .vmem S11008x64 .bf16) (harg8 : arg8.IsWhole) (arg9 : Memref sig .tc .vmem S1x11008 .f32) (harg9 : arg9.IsWhole) (arg10 : Memref sig .tc .vmem S128x11008 .bf16) (harg10 : arg10.IsWhole) (arg11 : Memref sig .tc .vmem S11008x2048 .i8) (harg11 : arg11.IsWhole) (arg12 : Memref sig .tc .vmem S2048x256 .i32) (harg12 : arg12.IsWhole) (arg13 : Memref sig .tc .vmem S2048x256 .i32) (harg13 : arg13.IsWhole) (arg14 : Memref sig .tc .vmem S64x256 .bf16) (harg14 : arg14.IsWhole) (arg15 : DmaSems sig S43)
variable (X0 : FVec F S128x4096 .bf16) (X1 : FVec F S128x4096 .bf16) (W : IVec S11008x2048 8) (X3 : IVec S16x256 16) (X4 : IVec S11008x64 8) (X5 : FVec F S1x11008 .f32)
  (X6 : FVec F S1x1 .f32) (X7 : FVec F S64x4096 .bf16) (X8 : FVec F S11008x64 .bf16) (X9 : FVec F S1x11008 .f32)
variable (table : IVec S128x128 32) (plane : IVec S32x256 32) (h : FVec F S128x64 .bf16)

/-- The weakest precondition of a program of the body. -/
abbrev WP {α : Type} (p : P F α) (Q : α → sProp 𝕄) : sProp 𝕄 :=
  wp frame (wpE (defs₀ (F := F)) Variants.none (c : Thread nD τ) none) Set.univ p Q

theorem WP_bind {α β : Type} (p : P F α) (k : α → P F β) (Q : β → sProp 𝕄) : WP c (p >>= k) Q = WP c p fun a => WP c (k a) Q :=
  wp_bind _ _ _ p k Q

theorem WP_lift {α β : Type} (e : TpuEff nD τ sig (Elt F) Λ₀ .tc α) (k : α → P F β) (Q : β → sProp 𝕄) : WP c (Prog.lift e >>= k) Q = WP c (.op e k) Q := rfl

theorem WP_ret {α : Type} (v : α) (Q : α → sProp 𝕄) : Q v ⊢ WP c (.ret v) Q := by
  show Q v ⊢ wp frame (wpE (defs₀ (F := F)) Variants.none (c : Thread nD τ) none) Set.univ (.ret v) Q
  rw [wp_ret]
  iintro H
  imodintro
  iexact H

theorem WP_done (Q : PUnit → sProp 𝕄) : Q ⟨⟩ ⊢ WP c (.ret ⟨⟩) Q := by
  show Q ⟨⟩ ⊢ wp frame (wpE (defs₀ (F := F)) Variants.none (c : Thread nD τ) none) Set.univ (.ret ⟨⟩) Q
  rw [wp_ret]
  iintro H
  imodintro
  iexact H

/-- A sequence of steps each of which takes `I i` to `I (i + 1)`. -/
theorem seq_spec : ∀ (n b : Nat) (I : Nat → sProp 𝕄) (f : Fin n → P F PUnit)
    (hf : ∀ i Q, I (b + i.val) ⊢ iprop((I (b + i.val + 1) -∗ Q ⟨⟩) -∗ WP c (f i) Q)) (Q : PUnit → sProp 𝕄),
    I b ⊢ iprop((I (b + n) -∗ Q ⟨⟩) -∗ WP c (seqFin n f) Q)
  | 0, b, I, f, hf, Q => by
    show I b ⊢ iprop((I b -∗ Q ⟨⟩) -∗ WP c (.ret ⟨⟩) Q)
    iintro HI HK
    iapply (WP_done c Q)
    iapply HK $$ HI
  | n + 1, b, I, f, hf, Q => by
    show I b ⊢ iprop((I (b + (n + 1)) -∗ Q ⟨⟩) -∗ WP c (f 0 >>= fun _ => seqFin n fun i => f i.succ) Q)
    rw [WP_bind]
    iintro HI HK
    have h0 : I b ⊢ iprop((I (b + 1) -∗ WP c (seqFin n fun i => f i.succ) Q) -∗ WP c (f 0) fun _ => WP c (seqFin n fun i => f i.succ) Q) :=
      hf 0 (fun _ => WP c (seqFin n fun i => f i.succ) Q)
    iapply h0 $$ HI
    iintro HI
    have ih := seq_spec n (b + 1) I (fun i => f i.succ)
      (fun i Q => by rw [show b + 1 + i.val = b + i.succ.val by simp only [Fin.val_succ]; omega]; exact hf i.succ Q) Q
    rw [show b + 1 + n = b + (n + 1) by omega] at ih
    iapply ih $$ HI
    iexact HK

/-- A quarter stored. -/
theorem putQuarter_spec (wt : Memref sig .tc .vmem S2048x256 .i32) (hwt : wt.IsWhole) (sc : FVec F S64x256 .bf16) (b : Fin 43) (kt : Fin 16) (q : Fin 4)
    (Q : PUnit → sProp 𝕄) :
    (ownsSat (c : Thread nD τ) wt fullShare (Upto (4 * kt.val + q.val) (wtOf table plane W sc b)) : sProp 𝕄)
      ⊢ iprop((ownsSat (c : Thread nD τ) wt fullShare (Upto (4 * kt.val + q.val + 1) (wtOf table plane W sc b)) -∗ Q ⟨⟩)
        -∗ WP c (putQuarter wt hwt kt q (quarterOf table plane W sc b kt q.val)) Q) := by
  unfold WP putQuarter
  rw [Prog.bind_lift]
  iintro H HK
  iapply (own_load_sat Variants.none (c : Thread nD τ) none) $$ H
  iintro %X H %hX
  iapply (own_store Variants.none (c : Thread nD τ) none (Φ := Upto (4 * kt.val + q.val) (wtOf table plane W sc b))
    (fun X Y hX hY hr => upto_succ table plane W sc b kt q X Y hX hY hr)) $$ [H]
  · iapply (ownsSat_intro (c : Thread nD τ) wt fullShare hX); iexact H
  iintro H
  iapply (WP_done c Q)
  iapply HK $$ H

/-- Block `i`'s rows of the packed weights in VMEM. -/
abbrev slab (i : Fin 43) : sProp 𝕄 :=
  owns (c : Thread nD τ) (arg11.slice (Rect.unit (s := S11008x2048) ![256 * i.val, 0] S256x2048.size (inb2 i)) (fun _ => rfl)) fullShare
    (fun j => W ((Rect.unit (s := S11008x2048) ![256 * i.val, 0] S256x2048.size (inb2 i)).emb j))

/-- Block `i`'s rows of the packed weights in HBM. -/
abbrev source (i : Fin 43) : sProp 𝕄 :=
  owns (c : Thread nD τ) (arg2.slice (Rect.unit (s := S11008x2048) ![256 * i.val, 0] S256x2048.size (inb2 i)) (fun _ => rfl)) fullShare
    (fun j => W ((Rect.unit (s := S11008x2048) ![256 * i.val, 0] S256x2048.size (inb2 i)).emb j))

omit [Facts] in
/-- A place of a tile, inside its block's rows. -/
theorem tile_in_rows (b : Fin 43) (kt : Fin 16) (j : (Rect.unit (s := S11008x2048) ![256 * b.val, 128 * kt.val] S256x128.size (inbTile b kt)).shape.Idx) :
    ∃ y : (Rect.unit (s := S11008x2048) ![256 * b.val, 0] S256x2048.size (inb2 b)).shape.Idx,
      (Rect.unit (s := S11008x2048) ![256 * b.val, 128 * kt.val] S256x128.size (inbTile b kt)).emb j
        = (Rect.unit (s := S11008x2048) ![256 * b.val, 0] S256x2048.size (inb2 b)).emb y := by
  have h : (Rect.unit (s := S11008x2048) ![256 * b.val, 128 * kt.val] S256x128.size (inbTile b kt)).emb j
      ∈ (Rect.unit (s := S11008x2048) ![256 * b.val, 0] S256x2048.size (inb2 b)).set := by
    rw [Rect.mem_set_unit]
    intro a
    match a with
    | ⟨0, _⟩ =>
      have h0 : (j 0).val < 256 := (j 0).isLt
      show 256 * b.val ≤ 256 * b.val + 1 * (j 0).val ∧ 256 * b.val + 1 * (j 0).val < 256 * b.val + 256
      omega
    | ⟨1, _⟩ =>
      have h0 : (j 1).val < 128 := (j 1).isLt
      show 0 ≤ 128 * kt.val + 1 * (j 1).val ∧ 128 * kt.val + 1 * (j 1).val < 0 + 2048
      omega
  obtain ⟨y, hy⟩ := (Rect.unit (s := S11008x2048) ![256 * b.val, 0] S256x2048.size (inb2 b)).toLoadRect.exists_idx_of_mem h
  exact ⟨y, hy.symm⟩

/-- A tile: from the first `4 kt` quarters of the block's weights to the first `4 (kt + 1)`. -/
theorem tile_spec (wt : Memref sig .tc .vmem S2048x256 .i32) (hwt : wt.IsWhole) (sc : FVec F S64x256 .bf16) (b : Fin 43) (kt : Fin 16)
    (w : Fin 2 → Nat) (hw : ∀ a, w a + S256x128.size a ≤ S11008x2048.size a) (ew : w = ![256 * b.val, 128 * kt.val]) (Q : PUnit → sProp 𝕄) :
    iprop(slab c arg11 W b ∗ owns (c : Thread nD τ) arg14 fullShare sc ∗ ownsSat (c : Thread nD τ) wt fullShare (Upto (4 * kt.val) (wtOf table plane W sc b)))
      ⊢ iprop((iprop(slab c arg11 W b ∗ owns (c : Thread nD τ) arg14 fullShare sc ∗ ownsSat (c : Thread nD τ) wt fullShare (Upto (4 * (kt.val + 1)) (wtOf table plane W sc b))) -∗ Q ⟨⟩)
        -∗ WP c (tile arg11 arg14 wt hwt table plane w hw kt) Q) := by
  subst ew
  unfold WP tile scaleRow
  choose g hg using tile_in_rows b kt
  rw [Prog.bind_lift]
  iintro ⟨Hw, Hs, Ht⟩ HK
  iapply (own_load_slice Variants.none (c : Thread nD τ) none g hg) $$ Hw
  iintro Hw
  rw [Prog.bind_lift]
  iapply (own_load Variants.none (c : Thread nD τ) none) $$ Hs
  iintro Hs
  rw [Prog.bind_lift]
  iapply (own_load Variants.none (c : Thread nD τ) none) $$ Hs
  iintro Hs
  rw [Prog.bind_lift]
  iapply (own_load Variants.none (c : Thread nD τ) none) $$ Hs
  iintro Hs
  rw [Prog.bind_lift]
  iapply (own_load Variants.none (c : Thread nD τ) none) $$ Hs
  iintro Hs
  rw [wp_bind]
  iapply (putQuarter_spec c W table plane wt hwt sc b kt 0 _) $$ Ht
  iintro Ht
  rw [wp_bind]
  iapply (putQuarter_spec c W table plane wt hwt sc b kt 1 _) $$ Ht
  iintro Ht
  rw [wp_bind]
  iapply (putQuarter_spec c W table plane wt hwt sc b kt 2 _) $$ Ht
  iintro Ht
  iapply (putQuarter_spec c W table plane wt hwt sc b kt 3 _) $$ Ht
  iintro Ht
  iapply HK
  isplitl [Hw]; · iexact Hw
  isplitl [Hs]; · iexact Hs
  iexact Ht

/-- A block's scales are put. -/
theorem putScales_spec (b : Fin 43) (o4 : Fin 2 → Nat) (h4 : ∀ a, o4 a + S256x64.size a ≤ S11008x64.size a) (e4 : o4 = ![256 * b.val, 0])
    (o5 : Fin 2 → Nat) (h5 : ∀ a, o5 a + S1x256.size a ≤ S1x11008.size a) (e5 : o5 = ![0, 256 * b.val]) (Q : PUnit → sProp 𝕄) :
    iprop(owns (c : Thread nD τ) arg4 fullShare X4 ∗ owns (c : Thread nD τ) arg5 fullShare X5 ∗ owns (c : Thread nD τ) arg6 fullShare X6
        ∗ ownsSat (c : Thread nD τ) arg14 fullShare (fun _ => True))
      ⊢ iprop((iprop(owns (c : Thread nD τ) arg4 fullShare X4 ∗ owns (c : Thread nD τ) arg5 fullShare X5 ∗ owns (c : Thread nD τ) arg6 fullShare X6
          ∗ owns (c : Thread nD τ) arg14 fullShare (scaleOf X4 X5 X6 b)) -∗ Q ⟨⟩)
        -∗ WP c (putScales arg4 arg5 arg6 arg14 harg14 o4 h4 o5 h5) Q) := by
  subst e4 e5
  unfold WP putScales
  iintro ⟨H4, H5, H6, Hs⟩ HK
  rw [Prog.bind_lift]
  iapply (own_load Variants.none (c : Thread nD τ) none) $$ H4
  iintro H4
  rw [Prog.bind_lift]
  iapply (own_load Variants.none (c : Thread nD τ) none) $$ H5
  iintro H5
  rw [wp_bind]
  unfold smemLoad smemLoadElt
  iapply (own_load Variants.none (c : Thread nD τ) none) $$ H6
  iintro H6
  rw [wp_ret]
  imodintro
  rw [Prog.bind_lift]
  iapply (own_load_sat Variants.none (c : Thread nD τ) none) $$ Hs
  iintro %X Hs %hX
  iapply (own_store Variants.none (c : Thread nD τ) none (Φ := fun _ => True) (Ψ := (· = scaleOf X4 X5 X6 b)) ?_) $$ [Hs]
  · intro X Y _ hY _
    funext i
    have he : (Rect.unit (s := S64x256) ![0, 0] S64x256.size inb_S64x256_S64x256_0_0).emb i = i := by
      funext a
      refine Fin.ext ?_
      match a with
      | ⟨0, _⟩ => show 0 + 1 * (i 0).val = (i 0).val; omega
      | ⟨1, _⟩ => show 0 + 1 * (i 1).val = (i 1).val; omega
    have h1 := hY i
    rw [he] at h1
    exact h1
  · iapply (ownsSat_intro (c : Thread nD τ) arg14 fullShare hX); iexact Hs
  iintro Hs
  iapply (WP_done c Q)
  iapply HK
  isplitl [H4]; · iexact H4
  isplitl [H5]; · iexact H5
  isplitl [H6]; · iexact H6
  rw [owns_eq_ownsSat]
  iexact Hs

/-- What a block's dequantisation reads and leaves as it was. -/
abbrev Quant (b : Fin 43) : sProp 𝕄 :=
  iprop(owns (c : Thread nD τ) arg4 fullShare X4 ∗ owns (c : Thread nD τ) arg5 fullShare X5 ∗ owns (c : Thread nD τ) arg6 fullShare X6 ∗ slab c arg11 W b)

/-- A block becomes numbers. -/
theorem dequant_spec (wt : Memref sig .tc .vmem S2048x256 .i32) (hwt : wt.IsWhole) (b : Fin 43) (o4 : Fin 2 → Nat) (h4 : ∀ a, o4 a + S256x64.size a ≤ S11008x64.size a) (e4 : o4 = ![256 * b.val, 0])
    (o5 : Fin 2 → Nat) (h5 : ∀ a, o5 a + S1x256.size a ≤ S1x11008.size a) (e5 : o5 = ![0, 256 * b.val])
    (w : Fin 16 → Fin 2 → Nat) (hw : ∀ kt a, w kt a + S256x128.size a ≤ S11008x2048.size a) (ew : ∀ kt, w kt = ![256 * b.val, 128 * kt.val]) (Q : PUnit → sProp 𝕄) :
    iprop(Quant c arg4 arg5 arg6 arg11 W X4 X5 X6 b ∗ ownsSat (c : Thread nD τ) arg14 fullShare (fun _ => True) ∗ ownsSat (c : Thread nD τ) wt fullShare (fun _ => True))
      ⊢ iprop((iprop(Quant c arg4 arg5 arg6 arg11 W X4 X5 X6 b ∗ ownsSat (c : Thread nD τ) arg14 fullShare (fun _ => True)
          ∗ owns (c : Thread nD τ) wt fullShare (wtOf table plane W (scaleOf X4 X5 X6 b) b)) -∗ Q ⟨⟩)
        -∗ WP c (dequant arg4 arg5 arg6 arg11 arg14 harg14 wt hwt table plane o4 h4 o5 h5 w hw) Q) := by
  unfold WP dequant
  rw [wp_bind]
  iintro ⟨⟨H4, H5, H6, Hw⟩, Hs, Ht⟩ HK
  iapply (putScales_spec c arg4 arg5 arg6 arg14 harg14 X4 X5 X6 b o4 h4 e4 o5 h5 e5 _) $$ [H4 H5 H6 Hs]
  · isplitl [H4]; · iexact H4
    isplitl [H5]; · iexact H5
    isplitl [H6]; · iexact H6
    iexact Hs
  iintro ⟨H4, H5, H6, Hs⟩
  have hseq := seq_spec c 16 0 (fun n => iprop(slab c arg11 W b ∗ owns (c : Thread nD τ) arg14 fullShare (scaleOf X4 X5 X6 b)
      ∗ ownsSat (c : Thread nD τ) wt fullShare (Upto (4 * n) (wtOf table plane W (scaleOf X4 X5 X6 b) b))))
    (fun kt => tile arg11 arg14 wt hwt table plane (w kt) (hw kt) kt)
    (fun kt Q => by rw [Nat.zero_add]; exact tile_spec c arg11 arg14 W table plane wt hwt (scaleOf X4 X5 X6 b) b kt (w kt) (hw kt) (ew kt) Q) Q
  iapply hseq $$ [Hw Hs Ht]
  · isplitl [Hw]; · iexact Hw
    isplitl [Hs]; · iexact Hs
    iapply (ownsSat_mono (c : Thread nD τ) wt fullShare (fun X _ i hi => absurd hi (Nat.not_lt_zero _)))
    iexact Ht
  iintro ⟨Hw, Hs, Ht⟩
  iapply HK
  isplitl [H4 H5 H6 Hw]
  · isplitl [H4]; · iexact H4
    isplitl [H5]; · iexact H5
    isplitl [H6]; · iexact H6
    iexact Hw
  isplitl [Hs]
  · iapply (ownsSat_intro (c : Thread nD τ) arg14 fullShare trivial); iexact Hs
  iapply (show (ownsSat (c : Thread nD τ) wt fullShare (Upto (4 * (0 + 16)) (wtOf table plane W (scaleOf X4 X5 X6 b) b)) : sProp 𝕄) ⊢ owns (c : Thread nD τ) wt fullShare (wtOf table plane W (scaleOf X4 X5 X6 b) b) by
    rw [owns_eq_ownsSat]
    exact ownsSat_mono (c : Thread nD τ) wt fullShare fun X hX => funext fun i => hX i (show (i 0).val < 2048 from (i 0).isLt))
  iexact Ht

/-- What a block's product reads and leaves as it was. -/
abbrev Factors : sProp 𝕄 :=
  iprop(owns (c : Thread nD τ) arg1 fullShare X1 ∗ owns (c : Thread nD τ) arg8 fullShare X8 ∗ owns (c : Thread nD τ) arg9 fullShare X9)

/-- A block's columns of the result are stored. -/
theorem multiply_spec (wt : Memref sig .tc .vmem S2048x256 .i32) (wts : Fin 43 → Vec F S2048x256 .i32) (b : Fin 43)
    (o8 : Fin 2 → Nat) (h8 : ∀ a, o8 a + S256x64.size a ≤ S11008x64.size a) (e8 : o8 = ![256 * b.val, 0])
    (o9 : Fin 2 → Nat) (h9 : ∀ a, o9 a + S1x256.size a ≤ S1x11008.size a) (e9 : o9 = ![0, 256 * b.val])
    (o10 : Fin 2 → Nat) (h10 : ∀ a, o10 a + S128x256.size a ≤ S128x11008.size a)
    (p10 : (Rect.unit (s := S128x11008) o10 S128x256.size h10).PackedRows (EltTy.packing .bf16)) (e10 : o10 = ![0, 256 * b.val]) (Q : PUnit → sProp 𝕄) :
    iprop(Factors c arg1 arg8 arg9 X1 X8 X9 ∗ owns (c : Thread nD τ) wt fullShare (wts b) ∗ ownsSat (c : Thread nD τ) arg10 fullShare (Columns b.val (outOf h wts X1 X8 X9)))
      ⊢ iprop((iprop(Factors c arg1 arg8 arg9 X1 X8 X9 ∗ ownsSat (c : Thread nD τ) wt fullShare (fun _ => True) ∗ ownsSat (c : Thread nD τ) arg10 fullShare (Columns (b.val + 1) (outOf h wts X1 X8 X9))) -∗ Q ⟨⟩)
        -∗ WP c (multiply arg1 arg8 arg9 arg10 harg10 wt h o8 h8 o9 h9 o10 h10 p10) Q) := by
  subst e8 e9 e10
  unfold WP multiply productValue putProduct
  rw [wp_bind]
  iintro ⟨⟨H1, H8, H9⟩, Ht, Ho⟩ HK
  rw [Prog.bind_lift]
  iapply (own_load Variants.none (c : Thread nD τ) none) $$ Ht
  iintro Ht
  rw [Prog.bind_lift]
  iapply (own_load Variants.none (c : Thread nD τ) none) $$ H1
  iintro H1
  rw [Prog.bind_lift]
  iapply (own_load Variants.none (c : Thread nD τ) none) $$ H8
  iintro H8
  rw [Prog.bind_lift]
  iapply (own_load Variants.none (c : Thread nD τ) none) $$ H9
  iintro H9
  iapply (WP_ret c)
  rw [Prog.bind_lift]
  iapply (own_load_sat Variants.none (c : Thread nD τ) none) $$ Ho
  iintro %X Ho %hX
  iapply (own_store Variants.none (c : Thread nD τ) none (Φ := Columns b.val (outOf h wts X1 X8 X9)) (Ψ := Columns (b.val + 1) (outOf h wts X1 X8 X9))
    (fun X Y hX hY hr => columns_succ h wts X1 X8 X9 b X Y hX hY hr)) $$ [Ho]
  · iapply (ownsSat_intro (c : Thread nD τ) arg10 fullShare hX); iexact Ho
  iintro Ho
  iapply (WP_done c Q)
  iapply HK
  isplitl [H1 H8 H9]
  · isplitl [H1]; · iexact H1
    isplitl [H8]; · iexact H8
    iexact H9
  isplitl [Ht]
  · iapply (ownsSat_intro (c : Thread nD τ) wt fullShare trivial); iexact Ht
  iexact Ho

/-! ## The copies -/

/-- The transfers' counters inside the proof's algebra. -/
abbrev EC : UEmb Counters 𝕄 := countersEmb (U := Pipeline.UD sig nD τ)

/-- Block `i`'s cell. -/
abbrev cell (i : Fin 43) : DmaSem sig := ((arg15.slice (Rect.unit (s := S43) ![i.val] S1.size (inb15 i))).squeeze S_ squeezes_S1_S_).sem

/-- Block `i` before its copy is issued. -/
abbrev Before (i : Fin 43) : sProp 𝕄 :=
  iprop(source c arg2 W i
    ∗ (∃ Y, owns (c : Thread nD τ) (arg11.slice (Rect.unit (s := S11008x2048) ![256 * i.val, 0] S256x2048.size (inb2 i)) (fun _ => rfl)) fullShare Y)
    ∗ semVal ((c : Thread nD τ), SemLoc.dma (cell arg15 i)) 0)

/-- Block `i`'s copy in flight. -/
abbrev Flying (i : Fin 43) : sProp 𝕄 :=
  Flight (EC (F := F)) (c : Thread nD τ) (SemLoc.dma (cell arg15 i)) ()
    (arg11.slice (Rect.unit (s := S11008x2048) ![256 * i.val, 0] S256x2048.size (inb2 i)) (fun _ => rfl)).view.dmaCredit
    iprop(slab c arg11 W i ∗ source c arg2 W i)

/-- Block `i` arrived. -/
abbrev Arrived (i : Fin 43) : sProp 𝕄 :=
  iprop(slab c arg11 W i ∗ source c arg2 W i ∗ semVal ((c : Thread nD τ), SemLoc.dma (cell arg15 i)) 0)

/-- What the core owes, whatever its waits. -/
abbrev Owes : sProp 𝕄 := iprop(∃ W', owes (c : Thread nD τ) 0 W')

/-- Block `i`'s copy is issued. -/
theorem fetch_spec (i : Fin 43) (Q : PUnit → sProp 𝕄) :
    step (Before c arg2 arg11 arg15 W) (Flying c arg2 arg11 arg15 W) i.val
      ⊢ iprop((step (Before c arg2 arg11 arg15 W) (Flying c arg2 arg11 arg15 W) (i.val + 1) -∗ Q ⟨⟩)
        -∗ WP c (fetch arg2 harg2 arg11 harg11 arg15 i) Q) := by
  refine (step_next _ _ i).trans ?_
  unfold WP fetch Prog.lift
  iintro ⟨⟨Hs, Hd, Hv⟩, Hrest⟩ HK
  iapply (own_copy Variants.none (c : Thread nD τ) none (EC (F := F)) ()
    (arg11.slice (Rect.unit (s := S11008x2048) ![256 * i.val, 0] S256x2048.size (inb2 i)) (fun _ => rfl)).view.dmaCredit rfl
    (View.dmaCredit_pos _ (show 0 < S256x2048.numel by decide))) $$ [Hs Hd Hv]
  · isplitl [Hs]; · iexact Hs
    isplitl [Hd]; · iexact Hd
    iexact Hv
  iintro Hf
  iapply (WP_done c Q)
  iapply HK
  iapply Hrest $$ Hf

/-- Block `i`'s copy is waited for. -/
theorem await_spec (i : Fin 43) (o1 : Fin 1 → Nat) (h1 : ∀ a, o1 a + S1.size a ≤ S43.size a) (e1 : o1 = ![i.val])
    (o2 : Fin 2 → Nat) (h2 : ∀ a, o2 a + S256x2048.size a ≤ S11008x2048.size a)
    (w2 : (Rect.unit (s := S11008x2048) o2 S256x2048.size h2).WholeWords (EltTy.packing .i8)) (e2 : o2 = ![256 * i.val, 0]) (Q : PUnit → sProp 𝕄) :
    iprop(step (Flying c arg2 arg11 arg15 W) (Arrived c arg2 arg11 arg15 W) i.val ∗ Owes (F := F) c)
      ⊢ iprop((iprop(step (Flying c arg2 arg11 arg15 W) (Arrived c arg2 arg11 arg15 W) (i.val + 1) ∗ Owes (F := F) c) -∗ Q ⟨⟩)
        -∗ WP c (await arg2 harg2 arg11 harg11 arg15 o1 h1 o2 h2 w2) Q) := by
  subst e1 e2
  unfold WP await Prog.lift
  iintro ⟨Hst, ⟨%W', HO⟩⟩ HK
  ihave Hst := (step_next (Flying c arg2 arg11 arg15 W) (Arrived c arg2 arg11 arg15 W) i) $$ Hst
  icases Hst with ⟨Hf, Hrest⟩
  iapply (wp_waitLocal (EC (F := F)) Variants.none (c : Thread nD τ) none () rfl) $$ [Hf HO]
  · isplitl [Hf]; · iexact Hf
    iexact HO
  iintro ⟨⟨Hd, Hs⟩, Hv, HO⟩
  iapply (WP_done c Q)
  iapply HK
  isplitl [Hd Hs Hv Hrest]
  · iapply Hrest
    isplitl [Hd]; · iexact Hd
    isplitl [Hs]; · iexact Hs
    iexact Hv
  iexists _
  iexact HO

/-- A block that has arrived becomes numbers. -/
theorem dequant_spec' (wt : Memref sig .tc .vmem S2048x256 .i32) (hwt : wt.IsWhole) (b : Fin 43) (n : Nat) (hb : b.val < n) (o4 : Fin 2 → Nat) (h4 : ∀ a, o4 a + S256x64.size a ≤ S11008x64.size a) (e4 : o4 = ![256 * b.val, 0])
    (o5 : Fin 2 → Nat) (h5 : ∀ a, o5 a + S1x256.size a ≤ S1x11008.size a) (e5 : o5 = ![0, 256 * b.val])
    (w : Fin 16 → Fin 2 → Nat) (hw : ∀ kt a, w kt a + S256x128.size a ≤ S11008x2048.size a) (ew : ∀ kt, w kt = ![256 * b.val, 128 * kt.val]) (Q : PUnit → sProp 𝕄) :
    iprop(owns (c : Thread nD τ) arg4 fullShare X4 ∗ owns (c : Thread nD τ) arg5 fullShare X5 ∗ owns (c : Thread nD τ) arg6 fullShare X6
        ∗ step (Flying c arg2 arg11 arg15 W) (Arrived c arg2 arg11 arg15 W) n
        ∗ ownsSat (c : Thread nD τ) arg14 fullShare (fun _ => True) ∗ ownsSat (c : Thread nD τ) wt fullShare (fun _ => True))
      ⊢ iprop((iprop(owns (c : Thread nD τ) arg4 fullShare X4 ∗ owns (c : Thread nD τ) arg5 fullShare X5 ∗ owns (c : Thread nD τ) arg6 fullShare X6
          ∗ step (Flying c arg2 arg11 arg15 W) (Arrived c arg2 arg11 arg15 W) n
          ∗ ownsSat (c : Thread nD τ) arg14 fullShare (fun _ => True)
          ∗ owns (c : Thread nD τ) wt fullShare (wtOf table plane W (scaleOf X4 X5 X6 b) b)) -∗ Q ⟨⟩)
        -∗ WP c (dequant arg4 arg5 arg6 arg11 arg14 harg14 wt hwt table plane o4 h4 o5 h5 w hw) Q) := by
  iintro ⟨H4, H5, H6, Hst, Hs, Ht⟩ HK
  ihave Hst := (step_peek (Flying c arg2 arg11 arg15 W) (Arrived c arg2 arg11 arg15 W) n b hb) $$ Hst
  icases Hst with ⟨⟨Hd, Hsrc, Hv⟩, Hrest⟩
  iapply (dequant_spec c arg4 arg5 arg6 arg11 arg14 harg14 W X4 X5 X6 table plane wt hwt b o4 h4 e4 o5 h5 e5 w hw ew Q) $$ [H4 H5 H6 Hd Hs Ht]
  · isplitl [H4 H5 H6 Hd]
    · isplitl [H4]; · iexact H4
      isplitl [H5]; · iexact H5
      isplitl [H6]; · iexact H6
      iexact Hd
    isplitl [Hs]; · iexact Hs
    iexact Ht
  iintro ⟨⟨H4, H5, H6, Hd⟩, Hs, Ht⟩
  iapply HK
  isplitl [H4]; · iexact H4
  isplitl [H5]; · iexact H5
  isplitl [H6]; · iexact H6
  isplitl [Hd Hsrc Hv Hrest]
  · iapply Hrest
    isplitl [Hd]; · iexact Hd
    isplitl [Hsrc]; · iexact Hsrc
    iexact Hv
  isplitl [Hs]; · iexact Hs
  iexact Ht

/-! ## The loop -/

/-- A loop that carries nothing: its trips in order keep `I`. -/
theorem loop_spec (l : Scf.Loop 32) (hok : l.OK) (n : Nat) (hn : l.trips = n) (f : Fin l.trips → PUnit → Prog (TpuEff nD τ sig (Elt F) Λ₀ .tc) PUnit) (I : Nat → sProp 𝕄)
    (hf : ∀ t, I t.val ⊢ WP c (f t ⟨⟩) (fun _ => I (t.val + 1))) (Q : PUnit → sProp 𝕄) :
    I 0 ⊢ iprop((I n -∗ Q ⟨⟩) -∗ WP c (Scf.Loop.for l hok ⟨⟩ f) Q) := by
  rw [← hn]
  unfold WP
  iintro HI HK
  iapply (Scf.wp_for frame (wpE (defs₀ (F := F)) Variants.none (c : Thread nD τ) none) Set.univ l.lb l.ub l.st hok ⟨⟩ f (fun t _ => I t)
    (fun t _ => hf t))
  isplitl [HI]; · iexact HI
  iintro %acc HI
  iapply HK
  iexact HI

omit [Facts] in
theorem trip_lt (t : Fin k0_t1_loop.trips) : t.val < 21 := lt_of_lt_of_eq t.isLt (by decide +kernel)

omit [Facts] in
/-- The loop makes 21 trips. -/
theorem trips_eq : k0_t1_loop.trips = 21 := by decide +kernel

omit [Facts] in
/-- The offsets of a trip, as multiples of the block. -/
theorem offs (t : Fin k0_t1_loop.trips) :
    (k0_off1 t 1#32 = ![2 * t.val + 1] ∧ k0_off1 t 2#32 = ![2 * t.val + 2])
    ∧ (k0_off2 t 1#32 = ![256 * (2 * t.val + 1), 0] ∧ k0_off2 t 2#32 = ![256 * (2 * t.val + 2), 0])
    ∧ (k0_off3 t = ![256 * (2 * t.val), 0] ∧ k0_off4 t = ![0, 256 * (2 * t.val)] ∧ k0_off5 t = ![0, 256 * (2 * t.val)])
    ∧ (k0_off6 t 1#32 = ![256 * (2 * t.val + 1), 0] ∧ k0_off6 t 2#32 = ![256 * (2 * t.val + 2), 0])
    ∧ (k0_off7 t 1#32 = ![0, 256 * (2 * t.val + 1)] ∧ k0_off7 t 2#32 = ![0, 256 * (2 * t.val + 2)])
    ∧ k0_off24 t = ![0, 256 * (2 * t.val + 1)] := by
  revert t; decide +kernel

omit [Facts] in
/-- The offsets of a trip's tiles. -/
theorem tileOffs (t : Fin k0_t1_loop.trips) (kt : Fin 16) :
    tileOff t 1#32 kt = ![256 * (2 * t.val + 1), 128 * kt.val] ∧ tileOff t 2#32 kt = ![256 * (2 * t.val + 2), 128 * kt.val] := by
  revert t kt; decide +kernel

/-- The blocks' weights. -/
abbrev wts (b : Fin 43) : Vec F S2048x256 .i32 := wtOf table plane W (scaleOf X4 X5 X6 b) b

/-- What holds before trip `t`: blocks up to `2 t` have arrived, block `2 t` is in `wt_a`, the result has the first `2 t` blocks. -/
def Inv (t : Nat) : sProp 𝕄 :=
  iprop(Factors c arg1 arg8 arg9 X1 X8 X9
    ∗ owns (c : Thread nD τ) arg4 fullShare X4 ∗ owns (c : Thread nD τ) arg5 fullShare X5 ∗ owns (c : Thread nD τ) arg6 fullShare X6
    ∗ step (Flying c arg2 arg11 arg15 W) (Arrived c arg2 arg11 arg15 W) (2 * t + 1)
    ∗ Owes (F := F) c
    ∗ (∃ hb : 2 * t < 43, owns (c : Thread nD τ) arg12 fullShare (wts W X4 X5 X6 table plane ⟨2 * t, hb⟩))
    ∗ ownsSat (c : Thread nD τ) arg13 fullShare (fun _ => True)
    ∗ ownsSat (c : Thread nD τ) arg14 fullShare (fun _ => True)
    ∗ ownsSat (c : Thread nD τ) arg10 fullShare (Columns (2 * t) (outOf h (wts W X4 X5 X6 table plane) X1 X8 X9)))

/-- A trip keeps the invariant. -/
theorem trip_spec (t : Fin k0_t1_loop.trips) :
    Inv c arg1 arg2 arg4 arg5 arg6 arg8 arg9 arg10 arg11 arg12 arg13 arg14 arg15 X1 W X4 X5 X6 X8 X9 table plane h t.val
      ⊢ WP c (trip arg1 arg2 harg2 arg4 arg5 arg6 arg8 arg9 arg10 harg10 arg11 harg11 arg12 harg12 arg13 harg13 arg14 harg14 arg15 h table plane t)
        (fun _ => Inv c arg1 arg2 arg4 arg5 arg6 arg8 arg9 arg10 arg11 arg12 arg13 arg14 arg15 X1 W X4 X5 X6 X8 X9 table plane h (t.val + 1)) := by
  have ht := trip_lt t
  obtain ⟨⟨e11, e12⟩, ⟨e21, e22⟩, ⟨e3, e4, e5⟩, ⟨e61, e62⟩, ⟨e71, e72⟩, e24⟩ := offs t
  unfold Inv WP trip
  rw [show 2 * (t.val + 1) = 2 * t.val + 2 by omega]
  iintro ⟨HF, H4, H5, H6, Hst, HO, ⟨%hb, Ha⟩, Hb, Hs, Ho⟩
  rw [wp_bind]
  iapply (await_spec c arg2 harg2 arg11 harg11 arg15 W ⟨2 * t.val + 1, by omega⟩ _ _ e11 _ _ _ e21 _) $$ [Hst HO]
  · isplitl [Hst]; · iexact Hst
    iexact HO
  iintro ⟨Hst, HO⟩
  rw [wp_bind]
  iapply (await_spec c arg2 harg2 arg11 harg11 arg15 W ⟨2 * t.val + 2, by omega⟩ _ _ e12 _ _ _ e22 _) $$ [Hst HO]
  · isplitl [Hst]; · iexact Hst
    iexact HO
  iintro ⟨Hst, HO⟩
  rw [wp_bind]
  iapply (multiply_spec c arg1 arg8 arg9 arg10 harg10 X1 X8 X9 h arg12 (wts W X4 X5 X6 table plane) ⟨2 * t.val, hb⟩ _ _ e3 _ _ e4 _ _ _ e5 _) $$ [HF Ha Ho]
  · isplitl [HF]; · iexact HF
    isplitl [Ha]; · iexact Ha
    iexact Ho
  iintro ⟨HF, Ha, Ho⟩
  rw [wp_bind]
  iapply (dequant_spec' c arg2 arg4 arg5 arg6 arg11 arg14 harg14 arg15 W X4 X5 X6 table plane arg13 harg13 ⟨2 * t.val + 1, by omega⟩ (2 * t.val + 2 + 1) (by show 2 * t.val + 1 < _; omega) _ _ e61 _ _ e71 _ _ (fun kt => (tileOffs t kt).1) _) $$ [H4 H5 H6 Hst Hs Hb]
  · isplitl [H4]; · iexact H4
    isplitl [H5]; · iexact H5
    isplitl [H6]; · iexact H6
    isplitl [Hst]; · iexact Hst
    isplitl [Hs]; · iexact Hs
    iexact Hb
  iintro ⟨H4, H5, H6, Hst, Hs, Hb⟩
  rw [wp_bind]
  iapply (multiply_spec c arg1 arg8 arg9 arg10 harg10 X1 X8 X9 h arg13 (wts W X4 X5 X6 table plane) ⟨2 * t.val + 1, by omega⟩ _ _ e61 _ _ e71 _ _ _ e24 _) $$ [HF Hb Ho]
  · isplitl [HF]; · iexact HF
    isplitl [Hb]; · iexact Hb
    iexact Ho
  iintro ⟨HF, Hb, Ho⟩
  iapply (dequant_spec' c arg2 arg4 arg5 arg6 arg11 arg14 harg14 arg15 W X4 X5 X6 table plane arg12 harg12 ⟨2 * t.val + 2, by omega⟩ (2 * t.val + 2 + 1) (Nat.lt_succ_self _) _ _ e62 _ _ e72 _ _ (fun kt => (tileOffs t kt).2) _) $$ [H4 H5 H6 Hst Hs Ha]
  · isplitl [H4]; · iexact H4
    isplitl [H5]; · iexact H5
    isplitl [H6]; · iexact H6
    isplitl [Hst]; · iexact Hst
    isplitl [Hs]; · iexact Hs
    iexact Ha
  iintro ⟨H4, H5, H6, Hst, Hs, Ha⟩
  isplitl [HF]; · iexact HF
  isplitl [H4]; · iexact H4
  isplitl [H5]; · iexact H5
  isplitl [H6]; · iexact H6
  isplitl [Hst]; · iexact Hst
  isplitl [HO]; · iexact HO
  isplitl [Ha]
  · iexists (show 2 * t.val + 2 < 43 by omega)
    iexact Ha
  isplitl [Hb]; · iexact Hb
  isplitl [Hs]; · iexact Hs
  iexact Ho

/-! ## The body -/

/-- The adapter's inner product, from the operands. -/
abbrev innerOf : FVec F S128x64 .bf16 :=
  inner (fun j => X0 ((Rect.unit (s := S128x4096) ![0, 0] S128x4096.size inb_S128x4096_S128x4096_0_0).emb j))
    (fun j => X7 ((Rect.unit (s := S64x4096) ![0, 0] S64x4096.size inb_S64x4096_S64x4096_0_0).emb j))

/-- The lane table, from the operand. -/
abbrev tableOf : IVec S128x128 32 := laneTable fun j => X3 ((Rect.unit (s := S16x256) ![0, 0] S16x256.size inb_S16x256_S16x256_0_0).emb j)

/-- The result, from the operands. -/
abbrev resultOf : FVec F S128x11008 .bf16 :=
  outOf (innerOf X0 X7) (wts W X4 X5 X6 (tableOf X3) planes) X1 X8 X9

/-- The body: its operands are as they were, its copies are done, and the result is `resultOf`. -/
theorem body_spec (Q : PUnit → sProp 𝕄) :
    iprop((owns (c : Thread nD τ) arg0 fullShare X0 ∗ owns (c : Thread nD τ) arg3 fullShare X3 ∗ owns (c : Thread nD τ) arg7 fullShare X7
        ∗ Factors c arg1 arg8 arg9 X1 X8 X9
        ∗ owns (c : Thread nD τ) arg4 fullShare X4 ∗ owns (c : Thread nD τ) arg5 fullShare X5 ∗ owns (c : Thread nD τ) arg6 fullShare X6
        ∗ bigSep Finset.univ (Before c arg2 arg11 arg15 W)
        ∗ Owes (F := F) c
        ∗ ownsSat (c : Thread nD τ) arg12 fullShare (fun _ => True)
        ∗ ownsSat (c : Thread nD τ) arg13 fullShare (fun _ => True)
        ∗ ownsSat (c : Thread nD τ) arg14 fullShare (fun _ => True)
        ∗ ownsSat (c : Thread nD τ) arg10 fullShare (fun _ => True)))
      ⊢ iprop(((owns (c : Thread nD τ) arg0 fullShare X0 ∗ owns (c : Thread nD τ) arg3 fullShare X3 ∗ owns (c : Thread nD τ) arg7 fullShare X7
        ∗ Factors c arg1 arg8 arg9 X1 X8 X9
        ∗ owns (c : Thread nD τ) arg4 fullShare X4 ∗ owns (c : Thread nD τ) arg5 fullShare X5 ∗ owns (c : Thread nD τ) arg6 fullShare X6
        ∗ bigSep Finset.univ (Arrived c arg2 arg11 arg15 W)
        ∗ Owes (F := F) c
        ∗ ownsSat (c : Thread nD τ) arg12 fullShare (fun _ => True)
        ∗ ownsSat (c : Thread nD τ) arg13 fullShare (fun _ => True)
        ∗ ownsSat (c : Thread nD τ) arg14 fullShare (fun _ => True)
        ∗ owns (c : Thread nD τ) arg10 fullShare (resultOf X0 X1 W X3 X4 X5 X6 X7 X8 X9)) -∗ Q ⟨⟩)
        -∗ WP c (body arg0 arg1 arg2 harg2 arg3 arg4 arg5 arg6 arg7 arg8 arg9 arg10 harg10 arg11 harg11 arg12 harg12 arg13 harg13 arg14 harg14 arg15) Q) := by
  unfold WP body
  rw [← step_zero (Before c arg2 arg11 arg15 W) (Flying c arg2 arg11 arg15 W),
    ← step_all (Flying c arg2 arg11 arg15 W) (Arrived c arg2 arg11 arg15 W)]
  have hmid : step (Before (F := F) c arg2 arg11 arg15 W) (Flying c arg2 arg11 arg15 W) 43 = step (Flying c arg2 arg11 arg15 W) (Arrived c arg2 arg11 arg15 W) 0 :=
    (step_all _ _).trans (step_zero _ _).symm
  have hres : ownsSat (c : Thread nD τ) arg10 fullShare (Columns (42 + 1) (resultOf X0 X1 W X3 X4 X5 X6 X7 X8 X9))
      ⊢ (owns (c : Thread nD τ) arg10 fullShare (resultOf X0 X1 W X3 X4 X5 X6 X7 X8 X9) : sProp 𝕄) := by
    rw [owns_eq_ownsSat]
    exact ownsSat_mono (c : Thread nD τ) arg10 fullShare fun X hX => funext fun i => hX i (show (i 1).val < 256 * 43 from (i 1).isLt)
  have hseq := seq_spec c 43 0 (fun n => step (Before (F := F) c arg2 arg11 arg15 W) (Flying c arg2 arg11 arg15 W) n) (fetch arg2 harg2 arg11 harg11 arg15)
    (fun i Q => by rw [Nat.zero_add]; exact fetch_spec c arg2 harg2 arg11 harg11 arg15 W i Q)
  rw [Nat.zero_add, hmid] at hseq
  rw [wp_bind]
  iintro ⟨H0, H3, H7, HF, H4, H5, H6, Hst, HO, Ha, Hb, Hs, Ho⟩ HK
  iapply (hseq _) $$ Hst
  iintro Hst
  rw [Prog.bind_lift]
  iapply (own_load Variants.none (c : Thread nD τ) none) $$ H0
  iintro H0
  rw [Prog.bind_lift]
  iapply (own_load Variants.none (c : Thread nD τ) none) $$ H7
  iintro H7
  rw [Prog.bind_lift]
  iapply (own_load Variants.none (c : Thread nD τ) none) $$ H3
  iintro H3
  rw [wp_bind]
  iapply (await_spec c arg2 harg2 arg11 harg11 arg15 W ⟨0, by decide⟩ _ _ rfl _ _ _ rfl _) $$ [Hst HO]
  · isplitl [Hst]; · iexact Hst
    iexact HO
  iintro ⟨Hst, HO⟩
  rw [wp_bind]
  iapply (dequant_spec' c arg2 arg4 arg5 arg6 arg11 arg14 harg14 arg15 W X4 X5 X6 (tableOf X3) planes arg12 harg12 ⟨0, by decide⟩ (0 + 1) Nat.one_pos _ _ rfl _ _ rfl _ _ (fun kt => rfl) _) $$ [H4 H5 H6 Hst Hs Ha]
  · isplitl [H4]; · iexact H4
    isplitl [H5]; · iexact H5
    isplitl [H6]; · iexact H6
    isplitl [Hst]; · iexact Hst
    isplitl [Hs]; · iexact Hs
    iexact Ha
  iintro ⟨H4, H5, H6, Hst, Hs, Ha⟩
  rw [wp_bind]
  have hloop := loop_spec c k0_t1_loop k0_t1_ok 21 trips_eq
    (fun k0_t1 _ => trip arg1 arg2 harg2 arg4 arg5 arg6 arg8 arg9 arg10 harg10 arg11 harg11 arg12 harg12 arg13 harg13 arg14 harg14 arg15 (innerOf X0 X7) (tableOf X3) planes k0_t1)
    (Inv c arg1 arg2 arg4 arg5 arg6 arg8 arg9 arg10 arg11 arg12 arg13 arg14 arg15 X1 W X4 X5 X6 X8 X9 (tableOf X3) planes (innerOf X0 X7))
    (fun t => trip_spec c arg1 arg2 harg2 arg4 arg5 arg6 arg8 arg9 arg10 harg10 arg11 harg11 arg12 harg12 arg13 harg13 arg14 harg14 arg15 X1 W X4 X5 X6 X8 X9 (tableOf X3) planes (innerOf X0 X7) t)
  iapply (hloop _) $$ [HF H4 H5 H6 Hst HO Ha Hb Hs Ho]
  · unfold Inv
    isplitl [HF]; · iexact HF
    isplitl [H4]; · iexact H4
    isplitl [H5]; · iexact H5
    isplitl [H6]; · iexact H6
    isplitl [Hst]; · iexact Hst
    isplitl [HO]; · iexact HO
    isplitl [Ha]
    · iexists (show 2 * 0 < 43 by decide)
      iexact Ha
    isplitl [Hb]; · iexact Hb
    isplitl [Hs]; · iexact Hs
    iapply (ownsSat_mono (c : Thread nD τ) arg10 fullShare (fun X _ i hi => absurd hi (Nat.not_lt_zero _)))
    iexact Ho
  unfold Inv
  iintro ⟨HF, H4, H5, H6, Hst, HO, ⟨%hb, Ha⟩, Hb, Hs, Ho⟩
  iapply (multiply_spec c arg1 arg8 arg9 arg10 harg10 X1 X8 X9 (innerOf X0 X7) arg12 (wts W X4 X5 X6 (tableOf X3) planes) ⟨42, by decide⟩ _ _ rfl _ _ rfl _ _ _ rfl _) $$ [HF Ha Ho]
  · isplitl [HF]; · iexact HF
    isplitl [Ha]; · iexact Ha
    iexact Ho
  iintro ⟨HF, Ha, Ho⟩
  iapply HK
  isplitl [H0]; · iexact H0
  isplitl [H3]; · iexact H3
  isplitl [H7]; · iexact H7
  isplitl [HF]; · iexact HF
  isplitl [H4]; · iexact H4
  isplitl [H5]; · iexact H5
  isplitl [H6]; · iexact H6
  isplitl [Hst]
  · iexact Hst
  isplitl [HO]; · iexact HO
  isplitl [Ha]; · iexact Ha
  isplitl [Hb]; · iexact Hb
  isplitl [Hs]; · iexact Hs
  iapply hres
  iexact Ho

end Steps

end Cert.Kernel.Run

end
-- ==== Proof.KernelFrame.lean ====
/- The pipeline around the body: the region owns what the body needs, the body's result is the window's block, the run ends
   with every argument as it was, every semaphore at zero and the result array at `result`. -/
module

public import proofs.«01_k».proof.Proof.Gen.Kernel.Frame
public import proofs.«01_k».proof.Proof.Gen.Kernel.Points
public import proofs.«01_k».proof.Proof.KernelRun
public import Idealize.ShloMosaic.Lib.Pipeline.FrameBody
public import Idealize.ShloMosaic.Lib.Pipeline.ValueKit.Geometry
public import Idealize.ShloMosaic.Lib.Ring

@[expose] public section

set_option maxRecDepth 16384

noncomputable section

namespace Cert.Kernel.Hand

open Cert.Kernel Cert.Kernel.Gen Cert.Kernel.Shape Cert.Kernel.Run Cert.Rules
open Facts₀ Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-! ## What the region lends the body -/

/-- The body's 43 cells. -/
abbrev osem0 : Fin 43 → SemLoc sig := fun i => SemLoc.dma (cell cc0_scratch4 i)
theorem ownSemFacts0 : Pipeline.OwnSemFacts spec0 osem0 := by decide +kernel

/-- The codes stay in HBM. -/
def H0 : Finset (Ref sig .tc) := {main_arg1}
theorem H0_sub : H0 ⊆ Pipeline.restRefs sig spec0 := by decide

/-- The 43 blocks of rows. -/
abbrev rows (i : Fin 43) : Rect S11008x2048 := Rect.unit (s := S11008x2048) ![256 * i.val, 0] S256x2048.size (inb2 i)

theorem rows_disjoint (i j : Fin 43) (h : i ≠ j) : Disjoint (rows i).set (rows j).set :=
  Ring.lead_disjoint (s := S11008x2048) 0 256 (fun i : Fin 43 => ![256 * i.val, 0]) S256x2048.size inb2 (fun _ => rfl) rfl i j h

theorem rows_cover : Finset.univ.biUnion (fun i : Fin 43 => (rows i).set) = Finset.univ :=
  Ring.lead_cover (s := S11008x2048) 0 256 (fun i : Fin 43 => ![256 * i.val, 0]) S256x2048.size inb2 (fun _ => rfl)
    (fun b a ha => by revert a; intro a ha; match a, ha with | ⟨0, _⟩, ha => exact absurd rfl ha | ⟨1, _⟩, _ => rfl) rfl
    (fun a ha => by match a, ha with | ⟨0, _⟩, ha => exact absurd rfl ha | ⟨1, _⟩, _ => rfl) rfl

/-- A family of threes is three families. -/
theorem threes (A B C : Fin 43 → sProp 𝕄) :
    bigSep Finset.univ (fun i => iprop(A i ∗ B i ∗ C i)) = iprop(bigSep Finset.univ A ∗ bigSep Finset.univ B ∗ bigSep Finset.univ C) :=
  (BI.bigSep_sep Finset.univ A fun i => iprop(B i ∗ C i)).trans (congrArg (BI.sep (bigSep Finset.univ A)) (BI.bigSep_sep Finset.univ B C))

/-- A block of the copy's buffer, at whatever it holds. -/
theorem some_rows (c : Dev nD) (X : Vec F S256x2048 .i8) (i : Fin 43) :
    (owns (c : Thread nD τ) ((Memref.whole cc0_scratch0).slice (rows i) (fun _ => rfl)) fullShare X : sProp 𝕄)
      ⊢ iprop(∃ Y, owns (c : Thread nD τ) ((Memref.whole cc0_scratch0).slice (rows i) (fun _ => rfl)) fullShare Y) := by
  iintro H
  iexists X
  iexact H

/-- The array in HBM, the buffer it is copied to and the cells, as the body takes them: block by block. -/
theorem blocks_split (c : Dev nD) (W : IVec S11008x2048 8) :
    iprop((((c : Thread nD τ).loc main_arg1) ↦{fullShare} W)
        ∗ (∃ f : Buf (Elt F) ((c : Thread nD τ).loc cc0_scratch0), ((c : Thread nD τ).loc cc0_scratch0) ↦{fullShare} f)
        ∗ Pipeline.ownSems0 (Ix := Unit) (Name := ℕ) (U := Pipeline.UD sig nD τ) (Lvl := ℕ) (Val := Elt F) (τ := τ) osem0 c)
      ⊢ (bigSep Finset.univ (Before c (Memref.whole main_arg1) (Memref.whole cc0_scratch0) cc0_scratch4 W) : sProp 𝕄) := by
  refine BIBase.Entails.trans ?_ (Entails.of_eq (threes (fun i => source c (Memref.whole main_arg1) W i)
    (fun i => iprop(∃ Y, owns (c : Thread nD τ) ((Memref.whole cc0_scratch0).slice (rows i) (fun _ => rfl)) fullShare Y))
    (fun i => semVal ((c : Thread nD τ), SemLoc.dma (cell cc0_scratch4 i)) 0)).symm)
  rw [← owns_whole]
  iintro ⟨H1, ⟨%f, H2⟩, H3⟩
  isplitl [H1]
  · iapply (owns_rects (c : Thread nD τ) (Memref.whole main_arg1) fullShare rows (fun _ _ => rfl) rows_disjoint rows_cover W) $$ H1
  isplitl [H2]
  · have h : (((c : Thread nD τ).loc cc0_scratch0) ↦{fullShare} f : sProp 𝕄)
        ⊢ bigSep Finset.univ fun i => iprop(∃ Y, owns (c : Thread nD τ) ((Memref.whole cc0_scratch0).slice (rows i) (fun _ => rfl)) fullShare Y) := by
      rw [← owns_whole]
      exact (owns_rects (c : Thread nD τ) (Memref.whole cc0_scratch0) fullShare rows (fun _ _ => rfl) rows_disjoint rows_cover f).trans
        (BI.bigSep_mono fun i _ => some_rows c _ i)
    iapply h $$ H2
  unfold Pipeline.ownSems0
  iexact H3

/-- Blocks of an array, together. -/
theorem slabs_join (c : Dev nD) {m} (A : Memref sig .tc m S11008x2048 .i8) (W : IVec S11008x2048 8) :
    (bigSep Finset.univ (fun i : Fin 43 => owns (c : Thread nD τ) (A.slice (rows i) (fun _ => rfl)) fullShare (fun j => W ((rows i).emb j))) : sProp 𝕄)
      ⊢ (owns (c : Thread nD τ) A fullShare W : sProp 𝕄) :=
  owns_of_rects (Val := Elt F) (c : Thread nD τ) A fullShare rows (fun _ _ => rfl) rows_disjoint rows_cover W

/-- The blocks that have arrived, together. -/
theorem blocks_join (c : Dev nD) (W : IVec S11008x2048 8) :
    bigSep Finset.univ (Arrived c (Memref.whole main_arg1) (Memref.whole cc0_scratch0) cc0_scratch4 W)
      ⊢ (iprop((((c : Thread nD τ).loc main_arg1) ↦{fullShare} W)
        ∗ (∃ f : Buf (Elt F) ((c : Thread nD τ).loc cc0_scratch0), ((c : Thread nD τ).loc cc0_scratch0) ↦{fullShare} f)
        ∗ Pipeline.ownSems0 (Ix := Unit) (Name := ℕ) (U := Pipeline.UD sig nD τ) (Lvl := ℕ) (Val := Elt F) (τ := τ) osem0 c) : sProp 𝕄) := by
  refine BIBase.Entails.trans (Entails.of_eq (threes (fun i => slab c (Memref.whole cc0_scratch0) W i) (fun i => source c (Memref.whole main_arg1) W i)
    (fun i => semVal ((c : Thread nD τ), SemLoc.dma (cell cc0_scratch4 i)) 0))) ?_
  have h1 := slabs_join (F := F) c (Memref.whole main_arg1) W
  have h2 := slabs_join (F := F) c (Memref.whole cc0_scratch0) W
  have e1 := Entails.of_eq (owns_whole (Ix := Unit) (Name := ℕ) (U := Pipeline.UD sig nD τ) (Lvl := ℕ) (Val := Elt F) (c : Thread nD τ) main_arg1 fullShare W)
  have e2 := Entails.of_eq (owns_whole (Ix := Unit) (Name := ℕ) (U := Pipeline.UD sig nD τ) (Lvl := ℕ) (Val := Elt F) (c : Thread nD τ) cc0_scratch0 fullShare W)
  iintro ⟨H2, H1, H3⟩
  isplitl [H1]
  · iapply e1
    iapply h1 $$ H1
  isplitl [H2]
  · iexists W
    iapply e2
    iapply h2 $$ H2
  unfold Pipeline.ownSems0
  iexact H3

/-! ## The data of the pipeline -/

/-- The result: what the body computes from the arrays as the region finds them. -/
def result (c : Dev nD) : FVec F S128x11008 .bf16 :=
  resultOf (V m c main_v0) (V m c main_v4) (V m c main_arg1) (V m c main_v6) (V m c main_arg3) (V m c main_v9) (V m c main_v10)
    (V m c main_arg6) (V m c main_arg7) (V m c main_v11)

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, h⟩ => iblk m c ⟨0, h⟩ t
    | ⟨1, h⟩ => iblk m c ⟨1, h⟩ t
    | ⟨2, h⟩ => iblk m c ⟨2, h⟩ t
    | ⟨3, h⟩ => iblk m c ⟨3, h⟩ t
    | ⟨4, h⟩ => iblk m c ⟨4, h⟩ t
    | ⟨5, h⟩ => iblk m c ⟨5, h⟩ t
    | ⟨6, h⟩ => iblk m c ⟨6, h⟩ t
    | ⟨7, h⟩ => iblk m c ⟨7, h⟩ t
    | ⟨8, h⟩ => iblk m c ⟨8, h⟩ t
    | ⟨9, _⟩ => result m c
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

/-- The block of an array staged whole is the array. -/
theorem whole_read (r : Ref sig .tc) (off : Fin r.ty.shape.rank → Nat) (h0 : ∀ a, off a = 0) (f : r.ty.Contents (Elt F)) :
    ((Memref.whole r).access (Rect.unit off r.ty.shape.size (fun a => by rw [h0 a, Nat.zero_add])) : View sig .tc _ _ _).read (Elt F) f = f :=
  Memref.read_access_unit_zero (Elt F) r (funext h0) _ f

/-! Every operand's block is its array. -/

theorem iblk0 (c : Dev nD) (t : Fin cfg0.N) : iblk m c 0 t = V m c main_v0 := by
  unfold iblk
  exact whole_read main_v0 (fun a => (win0_0.index t) a * main_v0.ty.shape.size a) (fun a => Nat.zero_mul _) _
theorem iblk1 (c : Dev nD) (t : Fin cfg0.N) : iblk m c 1 t = V m c main_v4 := by
  unfold iblk
  exact whole_read main_v4 (fun a => (win0_1.index t) a * main_v4.ty.shape.size a) (fun a => Nat.zero_mul _) _
theorem iblk2 (c : Dev nD) (t : Fin cfg0.N) : iblk m c 2 t = V m c main_v6 := by
  unfold iblk
  exact whole_read main_v6 (fun a => (win0_2.index t) a * main_v6.ty.shape.size a) (fun a => Nat.zero_mul _) _
theorem iblk3 (c : Dev nD) (t : Fin cfg0.N) : iblk m c 3 t = V m c main_arg3 := by
  unfold iblk
  exact whole_read main_arg3 (fun a => (win0_3.index t) a * main_arg3.ty.shape.size a) (fun a => Nat.zero_mul _) _
theorem iblk4 (c : Dev nD) (t : Fin cfg0.N) : iblk m c 4 t = V m c main_v9 := by
  unfold iblk
  exact whole_read main_v9 (fun a => (win0_4.index t) a * main_v9.ty.shape.size a) (fun a => Nat.zero_mul _) _
theorem iblk5 (c : Dev nD) (t : Fin cfg0.N) : iblk m c 5 t = V m c main_v10 := by
  unfold iblk
  exact whole_read main_v10 (fun a => (win0_5.index t) a * main_v10.ty.shape.size a) (fun a => Nat.zero_mul _) _
theorem iblk6 (c : Dev nD) (t : Fin cfg0.N) : iblk m c 6 t = V m c main_arg6 := by
  unfold iblk
  exact whole_read main_arg6 (fun a => (win0_6.index t) a * main_arg6.ty.shape.size a) (fun a => Nat.zero_mul _) _
theorem iblk7 (c : Dev nD) (t : Fin cfg0.N) : iblk m c 7 t = V m c main_arg7 := by
  unfold iblk
  exact whole_read main_arg7 (fun a => (win0_7.index t) a * main_arg7.ty.shape.size a) (fun a => Nat.zero_mul _) _
theorem iblk8 (c : Dev nD) (t : Fin cfg0.N) : iblk m c 8 t = V m c main_v11 := by
  unfold iblk
  exact whole_read main_v11 (fun a => (win0_8.index t) a * main_v11.ty.shape.size a) (fun a => Nat.zero_mul _) _

/-! Before the body every operand's buffer holds its array, and the body leaves it so. -/

theorem before0 (c : Dev nD) (t : Fin cfg0.N) (d) : (dats m 0 c).before 0 t d = V m c main_v0 :=
  (((dats m 0 c).before_in_eq_fetched 0 rfl (fun _ => rfl) (fun _ _ _ => rfl) (fun t => by dsimp only [dats]; unfold Dat.blockOf iblk; dsimp only) t d).trans
    (by unfold Dat.fetched Dat.blockOf; rw [A_eq]; rfl)).trans (iblk0 m c t)
theorem after0 (c : Dev nD) (t : Fin cfg0.N) : (dats m 0 c).after 0 t = V m c main_v0 :=
  (show (dats m 0 c).after 0 t = iblk m c 0 t by dsimp only [dats]; rfl).trans (iblk0 m c t)
theorem before1 (c : Dev nD) (t : Fin cfg0.N) (d) : (dats m 0 c).before 1 t d = V m c main_v4 :=
  (((dats m 0 c).before_in_eq_fetched 1 rfl (fun _ => rfl) (fun _ _ _ => rfl) (fun t => by dsimp only [dats]; unfold Dat.blockOf iblk; dsimp only) t d).trans
    (by unfold Dat.fetched Dat.blockOf; rw [A_eq]; rfl)).trans (iblk1 m c t)
theorem after1 (c : Dev nD) (t : Fin cfg0.N) : (dats m 0 c).after 1 t = V m c main_v4 :=
  (show (dats m 0 c).after 1 t = iblk m c 1 t by dsimp only [dats]; rfl).trans (iblk1 m c t)
theorem before2 (c : Dev nD) (t : Fin cfg0.N) (d) : (dats m 0 c).before 2 t d = V m c main_v6 :=
  (((dats m 0 c).before_in_eq_fetched 2 rfl (fun _ => rfl) (fun _ _ _ => rfl) (fun t => by dsimp only [dats]; unfold Dat.blockOf iblk; dsimp only) t d).trans
    (by unfold Dat.fetched Dat.blockOf; rw [A_eq]; rfl)).trans (iblk2 m c t)
theorem after2 (c : Dev nD) (t : Fin cfg0.N) : (dats m 0 c).after 2 t = V m c main_v6 :=
  (show (dats m 0 c).after 2 t = iblk m c 2 t by dsimp only [dats]; rfl).trans (iblk2 m c t)
theorem before3 (c : Dev nD) (t : Fin cfg0.N) (d) : (dats m 0 c).before 3 t d = V m c main_arg3 :=
  (((dats m 0 c).before_in_eq_fetched 3 rfl (fun _ => rfl) (fun _ _ _ => rfl) (fun t => by dsimp only [dats]; unfold Dat.blockOf iblk; dsimp only) t d).trans
    (by unfold Dat.fetched Dat.blockOf; rw [A_eq]; rfl)).trans (iblk3 m c t)
theorem after3 (c : Dev nD) (t : Fin cfg0.N) : (dats m 0 c).after 3 t = V m c main_arg3 :=
  (show (dats m 0 c).after 3 t = iblk m c 3 t by dsimp only [dats]; rfl).trans (iblk3 m c t)
theorem before4 (c : Dev nD) (t : Fin cfg0.N) (d) : (dats m 0 c).before 4 t d = V m c main_v9 :=
  (((dats m 0 c).before_in_eq_fetched 4 rfl (fun _ => rfl) (fun _ _ _ => rfl) (fun t => by dsimp only [dats]; unfold Dat.blockOf iblk; dsimp only) t d).trans
    (by unfold Dat.fetched Dat.blockOf; rw [A_eq]; rfl)).trans (iblk4 m c t)
theorem after4 (c : Dev nD) (t : Fin cfg0.N) : (dats m 0 c).after 4 t = V m c main_v9 :=
  (show (dats m 0 c).after 4 t = iblk m c 4 t by dsimp only [dats]; rfl).trans (iblk4 m c t)
theorem before5 (c : Dev nD) (t : Fin cfg0.N) (d) : (dats m 0 c).before 5 t d = V m c main_v10 :=
  (((dats m 0 c).before_in_eq_fetched 5 rfl (fun _ => rfl) (fun _ _ _ => rfl) (fun t => by dsimp only [dats]; unfold Dat.blockOf iblk; dsimp only) t d).trans
    (by unfold Dat.fetched Dat.blockOf; rw [A_eq]; rfl)).trans (iblk5 m c t)
theorem after5 (c : Dev nD) (t : Fin cfg0.N) : (dats m 0 c).after 5 t = V m c main_v10 :=
  (show (dats m 0 c).after 5 t = iblk m c 5 t by dsimp only [dats]; rfl).trans (iblk5 m c t)
theorem before6 (c : Dev nD) (t : Fin cfg0.N) (d) : (dats m 0 c).before 6 t d = V m c main_arg6 :=
  (((dats m 0 c).before_in_eq_fetched 6 rfl (fun _ => rfl) (fun _ _ _ => rfl) (fun t => by dsimp only [dats]; unfold Dat.blockOf iblk; dsimp only) t d).trans
    (by unfold Dat.fetched Dat.blockOf; rw [A_eq]; rfl)).trans (iblk6 m c t)
theorem after6 (c : Dev nD) (t : Fin cfg0.N) : (dats m 0 c).after 6 t = V m c main_arg6 :=
  (show (dats m 0 c).after 6 t = iblk m c 6 t by dsimp only [dats]; rfl).trans (iblk6 m c t)
theorem before7 (c : Dev nD) (t : Fin cfg0.N) (d) : (dats m 0 c).before 7 t d = V m c main_arg7 :=
  (((dats m 0 c).before_in_eq_fetched 7 rfl (fun _ => rfl) (fun _ _ _ => rfl) (fun t => by dsimp only [dats]; unfold Dat.blockOf iblk; dsimp only) t d).trans
    (by unfold Dat.fetched Dat.blockOf; rw [A_eq]; rfl)).trans (iblk7 m c t)
theorem after7 (c : Dev nD) (t : Fin cfg0.N) : (dats m 0 c).after 7 t = V m c main_arg7 :=
  (show (dats m 0 c).after 7 t = iblk m c 7 t by dsimp only [dats]; rfl).trans (iblk7 m c t)
theorem before8 (c : Dev nD) (t : Fin cfg0.N) (d) : (dats m 0 c).before 8 t d = V m c main_v11 :=
  (((dats m 0 c).before_in_eq_fetched 8 rfl (fun _ => rfl) (fun _ _ _ => rfl) (fun t => by dsimp only [dats]; unfold Dat.blockOf iblk; dsimp only) t d).trans
    (by unfold Dat.fetched Dat.blockOf; rw [A_eq]; rfl)).trans (iblk8 m c t)
theorem after8 (c : Dev nD) (t : Fin cfg0.N) : (dats m 0 c).after 8 t = V m c main_v11 :=
  (show (dats m 0 c).after 8 t = iblk m c 8 t by dsimp only [dats]; rfl).trans (iblk8 m c t)
theorem out_after (c : Dev nD) (t : Fin cfg0.N) : (dats m 0 c).after 9 t = result m c := by dsimp only [dats]

/-! ## The body -/

/-- The invariant, its parts named. -/
theorem Phi_eq (c : Dev nD) :
    (Pipeline.ΦD osem0 spec0 H0 (V m) c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f)
          ∗ (∃ f : Buf (Elt F) ((c : Thread nD τ).loc cc0_scratch3), ((c : Thread nD τ).loc cc0_scratch3) ↦{fullShare} f))
        ∗ (∃ r, prngReg c r)
        ∗ Pipeline.ownSems0 (Ix := Unit) (Name := ℕ) (U := Pipeline.UD sig nD τ) (Lvl := ℕ) (Val := Elt F) (τ := τ) osem0 c
        ∗ (((c : Thread nD τ).loc main_arg1) ↦{fullShare} V m c main_arg1)) := by
  rw [Pipeline.ΦD_eq, scopedRest0_eq]
  rw [show (bigSep H0 (fun b => ((c : Thread nD τ).loc b) ↦{fullShare} V m c b) : sProp 𝕄) = (((c : Thread nD τ).loc main_arg1) ↦{fullShare} V m c main_arg1) from by
    rw [BI.bigSep_eq_bigSepL_of_eq [main_arg1] (by decide) (by decide)]; rfl]

/-- A buffer owned whole at something is owned at any contents at all. -/
theorem some_of (c : Dev nD) (b : Ref sig .tc) :
    (iprop(∃ f : Buf (Elt F) ((c : Thread nD τ).loc b), ((c : Thread nD τ).loc b) ↦{fullShare} f) : sProp 𝕄)
      ⊢ ownsSat (c : Thread nD τ) (Memref.whole b) fullShare (fun _ => True) := by
  refine BIBase.Entails.trans ?_ (ownsSat_true (c : Thread nD τ) (Memref.whole b) fullShare).2
  iintro ⟨%f, H⟩
  iexists f
  rw [owns_whole]
  iexact H

/-- And back. -/
theorem of_some (c : Dev nD) (b : Ref sig .tc) :
    (ownsSat (c : Thread nD τ) (Memref.whole b) fullShare (fun _ => True) : sProp 𝕄)
      ⊢ iprop(∃ f : Buf (Elt F) ((c : Thread nD τ).loc b), ((c : Thread nD τ).loc b) ↦{fullShare} f) := by
  refine BIBase.Entails.trans (ownsSat_true (c : Thread nD τ) (Memref.whole b) fullShare).1 ?_
  iintro ⟨%f, H⟩
  iexists f
  rw [← owns_whole]
  iexact H

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at a point is the restated body. -/
theorem bodyAt_eq (t : Fin cfg0.N) :
    bodyAt0 (F := F) t = Shape.body (st0_0 t) (st0_1 t) (Memref.whole main_arg1) (Memref.isWhole_whole _) (st0_2 t) (st0_3 t) (st0_4 t) (st0_5 t) (st0_6 t) (st0_7 t) (st0_8 t) (st0_9 t) (Gen.hstage0_9 0)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 :=
  body_eq ..

/-- The body at a point takes what it is given to what it gives back. -/
theorem sound_body (c : Dev nD) (t : Fin cfg0.N) :
    bodyPre m c t ⊢ wp frame (wpE (defs₀ (F := F)) Variants.none c none) Set.univ (bodyAt0 t) (fun _ => bodyPost m c t) := by
  have hspec := body_spec c (st0_0 t) (st0_1 t) (Memref.whole main_arg1) (Memref.isWhole_whole _) (st0_2 t) (st0_3 t) (st0_4 t) (st0_5 t) (st0_6 t) (st0_7 t) (st0_8 t) (st0_9 t) (Gen.hstage0_9 0)
    (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
    (V m c main_v0) (V m c main_v4) (V m c main_arg1) (V m c main_v6) (V m c main_arg3) (V m c main_v9) (V m c main_v10) (V m c main_arg6) (V m c main_arg7) (V m c main_v11)
    (fun _ => bodyPost m c t)
  unfold WP at hspec
  rw [bodyAt_eq]
  unfold bodyPre
  simp only [before0, before1, before2, before3, before4, before5, before6, before7, before8]
  have hpost : bodyPost m c t = iprop((dats m 0 c).Φ t.succ ∗ (dats m 0 c).owesAt () t.succ
    ∗ owns (c : Thread nD τ) (st0_0 t) fullShare (V m c main_v0) ∗ owns (c : Thread nD τ) (st0_1 t) fullShare (V m c main_v4)
    ∗ owns (c : Thread nD τ) (st0_2 t) fullShare (V m c main_v6) ∗ owns (c : Thread nD τ) (st0_3 t) fullShare (V m c main_arg3)
    ∗ owns (c : Thread nD τ) (st0_4 t) fullShare (V m c main_v9) ∗ owns (c : Thread nD τ) (st0_5 t) fullShare (V m c main_v10)
    ∗ owns (c : Thread nD τ) (st0_6 t) fullShare (V m c main_arg6) ∗ owns (c : Thread nD τ) (st0_7 t) fullShare (V m c main_arg7)
    ∗ owns (c : Thread nD τ) (st0_8 t) fullShare (V m c main_v11) ∗ owns (c : Thread nD τ) (st0_9 t) fullShare (result m c)) := by
    unfold bodyPost
    simp only [out_after, after0, after1, after2, after3, after4, after5, after6, after7, after8]
  rw [hpost] at hspec ⊢
  rw [show (dats m 0 c).Φ t.succ = Pipeline.ΦD osem0 spec0 H0 (V m) c from rfl, Phi_eq] at hspec ⊢
  rw [show (dats m 0 c).Φ t.castSucc = Pipeline.ΦD osem0 spec0 H0 (V m) c from rfl, Phi_eq]
  unfold Dat.owesAt Pipeline.owesWithin at hspec ⊢
  rw [show (dats m 0 c).owed t.succ = 0 from rfl] at hspec ⊢
  iintro ⟨⟨⟨HS0, HS1, HS2, HS3⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply hspec $$ [HS0 HS1 HS2 HS3 Hq Hh HW H0 H1 H2 H3 H4 H5 H6 H7 H8 H9]
  · isplitl [H0]; · iexact H0
    isplitl [H2]; · iexact H2
    isplitl [H6]; · iexact H6
    isplitl [H1 H7 H8]
    · isplitl [H1]; · iexact H1
      isplitl [H7]; · iexact H7
      iexact H8
    isplitl [H3]; · iexact H3
    isplitl [H4]; · iexact H4
    isplitl [H5]; · iexact H5
    isplitl [HS0 Hq Hh]
    · iapply (blocks_split c (V m c main_arg1))
      isplitl [Hh]; · iexact Hh
      isplitl [HS0]; · iexact HS0
      iexact Hq
    isplitl [HW]; · iexists W; iexact HW
    isplitl [HS1]; · iapply (some_of c cc0_scratch1) $$ HS1
    isplitl [HS2]; · iapply (some_of c cc0_scratch2) $$ HS2
    isplitl [HS3]; · iapply (some_of c cc0_scratch3) $$ HS3
    iapply (ownsSat_intro (c : Thread nD τ) (st0_9 t) fullShare trivial) $$ H9
  iintro ⟨H0, H2, H6, ⟨H1, H7, H8⟩, H3, H4, H5, Hb, ⟨%W', HW⟩, HS1, HS2, HS3, H9⟩
  ihave Hb := (blocks_join c (V m c main_arg1)) $$ Hb
  icases Hb with ⟨Hh, HS0, Hq⟩
  isplitl [HS0 HS1 HS2 HS3 Hg Hq Hh]
  · isplitl [HS0 HS1 HS2 HS3]
    · isplitl [HS0]; · iexact HS0
      isplitl [HS1]; · iapply (of_some c cc0_scratch1) $$ HS1
      isplitl [HS2]; · iapply (of_some c cc0_scratch2) $$ HS2
      iapply (of_some c cc0_scratch3) $$ HS3
    isplitl [Hg]; · iexact Hg
    isplitl [Hq]; · iexact Hq
    iexact Hh
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold result
  iexact H9

/-! ## The run and the frame -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
/-- The host operations before the region, at this proof's algebra. -/
theorem main_upto : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := main_upto m) (hA := A_eq m)
    (hin := fun _ => .rfl) (hout := fun _ => .rfl)

/-- The result array holds what the body left in its block. -/
theorem final (c : Dev nD) : (dats m 0 c).arrAt 9 cfg0.N = result m c :=
  (dats m 0 c).arrAt_eq_of_after_last 9 t0_0 (by decide +kernel) (result m c) fun j => by
    rw [out_after]; rfl

/-- The program ends, with its nine arguments unchanged, every semaphore at zero and `result` in the result array. -/
theorem ends : θ_run defs (onTc (τ := τ) (main (F := F))) ⟨m, fun _ => 0, ρ⟩ (fun r => (∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).1 9).trans (final m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 3).trans (((dats m 0 c).arrAt_in 3 rfl _).trans ((A_eq m c 3).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).1 6).trans (((dats m 0 c).arrAt_in 6 rfl _).trans ((A_eq m c 6).trans (V_main_arg6 m c))),
      ((h.1 c).1 7).trans (((dats m 0 c).arrAt_in 7 rfl _).trans ((A_eq m c 7).trans (V_main_arg7 m c))),
      ((h.1 c).2 main_arg8 (Pipeline.mem_restRefs_of main_arg8 (by decide) (by decide))).trans (V_main_arg8 m c)⟩, h.2⟩) (run_main m ρ)

end Cert.Kernel.Hand

end
-- ==== Proof.IdealShape.lean ====
/- The kernel's body over the reals, said again with its repetitions named: one weight tile, the sixteen tiles of a
   block, one product, the 43 copies, one trip of the loop. The last theorem states that this is the printed body. -/
module

public import proofs.«01_k».proof.Proof.Gen.KernelIdeal
public import Idealize.ShloMosaic.Lib.Tactic

@[expose] public section

namespace Cert.KernelIdeal.Shape

open Cert.KernelIdeal
open Idealize.ShloMosaic Idealize.SL.Sem

variable {F : FTy → Type} [FloatOps F]
variable [Facts]
open Facts₀ Facts

/-- Programs of the kernel's body. -/
abbrev P (F : FTy → Type) [FloatOps F] [Facts] (α : Type) : Type _ := Prog (TpuEff nD τ sig (Elt F) Λ₀ .tc) α

/-- `f 0`, then `f 1`, … . -/
def seqFin : (n : Nat) → (Fin n → P F PUnit) → P F PUnit
  | 0, _ => pure ⟨⟩
  | n + 1, f => f 0 >>= fun _ => seqFin n fun i => f i.succ

/-! ## Values -/

/-- Both bytes of each half word become its low byte. -/
def dupLow (w : IVec S32x256 32) : IVec S32x256 32 :=
  ori (andi w (broadcast S32x256 16711935#32)) (shli (andi w (broadcast S32x256 16711935#32)) (broadcast S32x256 8#32))

/-- The packed bytes of a tile, transposed and read as words. -/
def words (w : IVec S256x128 8) : IVec S32x256 32 :=
  bitcast S32x256 32 (transpose S128x256 [1, 0] w transposes_S256x128_p1_0_S128x256) bitcasts_S128x256_w8_S32x256_w32

/-- The four quarters of a tile's words: the low and high nibbles of the even and of the odd bytes, each twice. -/
def quarter (q : Nat) (w : IVec S32x256 32) : IVec S32x256 32 :=
  match q with
  | 0 => dupLow w
  | 1 => shrsi (dupLow w) (broadcast S32x256 4#32)
  | 2 => dupLow (shrsi w (broadcast S32x256 8#32))
  | _ => shrsi (dupLow (shrsi w (broadcast S32x256 8#32))) (broadcast S32x256 4#32)

/-- The numbers a quarter's nibbles stand for: each byte, its plane number put in the high nibble, looked up in the
    lane table, and the pairs of bytes found read as bf16 numbers. -/
def looked (table : IVec S128x128 32) (plane src : IVec S32x256 32) : FVec F S64x256 .bf16 :=
  have idx : IVec S128x256 32 := extsi 32 (bitcast S128x256 8 (ori (andi src (broadcast S32x256 252645135#32)) (shli plane (broadcast S32x256 4#32))) bitcasts_S32x256_w32_S128x256_w8) natLt_8_32
  have a : IVec S128x128 32 := dynamicGather 1 table (shapeCast S128x128 (shapeCast S128x128x1 (extractStridedSlice S128x128 ![0, 0] idx slices_S128x256_o0_0_S128x128) shapeCasts_S128x128_S128x128x1) shapeCasts_S128x128x1_S128x128)
  have b : IVec S128x128 32 := dynamicGather 1 table (shapeCast S128x128 (shapeCast S128x128x1 (extractStridedSlice S128x128 ![0, 128] idx slices_S128x256_o0_128_S128x128) shapeCasts_S128x128_S128x128x1) shapeCasts_S128x128x1_S128x128)
  bitcastToFloat .bf16 (bitcast S64x256 16 (bitcast S32x256 32 (trunci 8 (concatenate S128x256 1 [⟨S128x128, a⟩, ⟨S128x128, b⟩] concatenates_S128x128_S128x128_S128x256_d1) natLt_8_32) bitcasts_S128x256_w8_S32x256_w32) bitcasts_S32x256_w32_S64x256_w16)

/-- Four rows of scales, each over sixteen rows. -/
def scales (a b c d : FVec F S1x256 .bf16) : FVec F S64x256 .bf16 :=
  concatenate S64x256 0 [⟨S16x256, broadcastTo S16x256 (shapeCast S1x256 a shapeCasts_S1x256_S1x256) broadcasts_S1x256_S16x256⟩, ⟨S16x256, broadcastTo S16x256 (shapeCast S1x256 b shapeCasts_S1x256_S1x256) broadcasts_S1x256_S16x256⟩, ⟨S16x256, broadcastTo S16x256 (shapeCast S1x256 c shapeCasts_S1x256_S1x256) broadcasts_S1x256_S16x256⟩, ⟨S16x256, broadcastTo S16x256 (shapeCast S1x256 d shapeCasts_S1x256_S1x256) broadcasts_S1x256_S16x256⟩] concatenates_S16x256_S16x256_S16x256_S16x256_S64x256_d0

/-- What a quarter stores: its numbers times the scales, rows `2r` and `2r + 1` the pair `r`. -/
def stored (table : IVec S128x128 32) (plane w : IVec S32x256 32) (scale : FVec F S64x256 .bf16) (q : Nat) : FVec F S32x2x256 .bf16 :=
  have v : FVec F S64x256 .bf16 := mulf (looked table plane (quarter q w)) scale
  interleaveRows S32x2x256 (shapeCast S32x1x256 (rowsOfParity 0 S32x256 v bitcasts_S64x256_w16_S32x256_w32) shapeCasts_S32x256_S32x1x256) (shapeCast S32x1x256 (rowsOfParity 1 S32x256 v bitcasts_S64x256_w16_S32x256_w32) shapeCasts_S32x256_S32x1x256) bitcasts_S32x2x256_w16_S32x1x256_w32

/-- The scales of a block of 256 outputs: code times step plus offset, rounded. -/
def absmax (codes : IVec S256x64 8) (s2 : FVec F S1x256 .f32) (off : F .f32) : FVec F S64x256 .bf16 :=
  truncf .bf16 (addf (mulf (sitofp .f32 (transpose S64x256 [1, 0] codes transposes_S256x64_p1_0_S64x256)) (broadcastTo S64x256 (shapeCast S1x256 s2 shapeCasts_S1x256_S1x256) broadcasts_S1x256_S64x256)) (broadcast S64x256 off)) bitsLt_bf16_f32

/-- The adapter's inner product, rounded. -/
def inner (x : FVec F S128x4096 .bf16) (a : FVec F S64x4096 .bf16) : FVec F S128x64 .bf16 :=
  truncf .bf16 (matmul dot_S128x4096_S64x4096_S128x64_1_1_0_0_n_n none (shapeCast S128x4096 x shapeCasts_S128x4096_S128x4096) a (constant S128x64 .f32 0x00000000#32)) bitsLt_bf16_f32

/-- The lane table: the low bytes of the sixteen values, then their high bytes, in each of 128 rows. -/
def laneTable (t : IVec S16x256 16) : IVec S128x128 32 :=
  have bits : IVec S16x256 32 := shli (extsi 32 (shapeCast S16x256 t shapeCasts_S16x256_S16x256) natLt_16_32) (broadcast S16x256 16#32)
  have lo : IVec S16x256 32 := andi (shrsi bits (broadcast S16x256 16#32)) (broadcast S16x256 255#32)
  have hi : IVec S16x256 32 := andi (shrsi bits (broadcast S16x256 24#32)) (broadcast S16x256 255#32)
  concatenate S128x128 1 [⟨S128x32, transpose S128x32 [1, 0] (extsi 32 (extractStridedSlice S32x128 ![0, 0] (trunci 8 (concatenate S32x256 0 [⟨S16x256, lo⟩, ⟨S16x256, hi⟩] concatenates_S16x256_S16x256_S32x256_d0) natLt_8_32) slices_S32x256_o0_0_S32x128) natLt_8_32) transposes_S32x128_p1_0_S128x32⟩, ⟨S128x96, broadcast S128x96 0#32⟩] concatenates_S128x32_S128x96_S128x128_d1

/-- The plane numbers of the bytes of a word: 0, 0, 1, 1 … by bytes (0, 1, 0, 1). -/
def planes : IVec S32x256 32 := broadcast S32x256 16777472#32

/-- The even rows of a block's weights. -/
def evenRows (wt : FVec F S2048x2x256 .bf16) : FVec F S2048x256 .bf16 := shapeCast S2048x256 (rowsOfParity 0 S2048x1x256 wt bitcasts_S2048x2x256_w16_S2048x1x256_w32) shapeCasts_S2048x1x256_S2048x256

/-- The odd rows of a block's weights. -/
def oddRows (wt : FVec F S2048x2x256 .bf16) : FVec F S2048x256 .bf16 := shapeCast S2048x256 (rowsOfParity 1 S2048x1x256 wt bitcasts_S2048x2x256_w16_S2048x1x256_w32) shapeCasts_S2048x1x256_S2048x256

/-- A block of 256 columns of the result, from the even and odd rows of its weights. -/
def product (h : FVec F S128x64 .bf16) (lo hi : FVec F S2048x256 .bf16) (xp : FVec F S128x4096 .bf16) (lb : FVec F S256x64 .bf16) (bias : FVec F S1x256 .f32) : FVec F S128x256 .bf16 :=
  truncf .bf16 (addf (addf
      (matmul dot_S128x4096_S4096x256_S128x256_1_0_0_1_n_n none (shapeCast S128x4096 xp shapeCasts_S128x4096_S128x4096)
        (interleaveRows S4096x256 lo hi bitcasts_S4096x256_w16_S2048x256_w32)
        (constant S128x256 .f32 0x00000000#32))
      (mulf (broadcast S128x256 (Scalar.ofBits .f32 0x3E800000#32)) (matmul dot_S128x64_S256x64_S128x256_1_1_0_0_n_n none h lb (constant S128x256 .f32 0x00000000#32))))
    (broadcastTo S128x256 (shapeCast S1x256 bias shapeCasts_S1x256_S1x256) broadcasts_S1x256_S128x256)) bitsLt_bf16_f32

/-! ## Programs -/

section Programs

variable (arg0 : Memref sig .tc .vmem S128x4096 .bf16) (harg0 : arg0.IsWhole) (arg1 : Memref sig .tc .vmem S128x4096 .bf16) (harg1 : arg1.IsWhole) (arg2 : Memref sig .tc .hbm S11008x2048 .i8) (harg2 : arg2.IsWhole) (arg3 : Memref sig .tc .vmem S16x256 .i16) (harg3 : arg3.IsWhole) (arg4 : Memref sig .tc .vmem S11008x64 .i8) (harg4 : arg4.IsWhole) (arg5 : Memref sig .tc .vmem S1x11008 .f32) (harg5 : arg5.IsWhole) (arg6 : Memref sig .tc .smem S1x1 .f32) (harg6 : arg6.IsWhole) (arg7 : Memref sig .tc .vmem S64x4096 .bf16) (harg7 : arg7.IsWhole) (arg8 : Memref sig .tc .vmem S11008x64 .bf16) (harg8 : arg8.IsWhole) (arg9 : Memref sig .tc .vmem S1x11008 .f32) (harg9 : arg9.IsWhole) (arg10 : Memref sig .tc .vmem S128x11008 .bf16) (harg10 : arg10.IsWhole) (arg11 : Memref sig .tc .vmem S11008x2048 .i8) (harg11 : arg11.IsWhole) (arg12 : Memref sig .tc .vmem S2048x2x256 .bf16) (harg12 : arg12.IsWhole) (arg13 : Memref sig .tc .vmem S2048x2x256 .bf16) (harg13 : arg13.IsWhole) (arg14 : Memref sig .tc .vmem S64x256 .bf16) (harg14 : arg14.IsWhole) (arg15 : DmaSems sig S43)

omit [Facts] in
/-- A row of scales is in the buffer. -/
theorem inb14 (kt : Fin 16) (r : Fin 4) : ∀ a, (![4 * kt.val + r.val, 0] : Fin 2 → Nat) a + S1x256.size a ≤ S64x256.size a := by
  intro a
  match a with
  | ⟨0, _⟩ => show 4 * kt.val + r.val + 1 ≤ 64; omega
  | ⟨1, _⟩ => show 0 + 256 ≤ 256; omega

omit [Facts] in
/-- A quarter's 32 pairs of rows are in the buffer. -/
theorem inb12 (kt : Fin 16) (q : Fin 4) : ∀ a, (![128 * kt.val + 32 * q.val, 0, 0] : Fin 3 → Nat) a + S32x2x256.size a ≤ S2048x2x256.size a := by
  intro a
  match a with
  | ⟨0, _⟩ => show 128 * kt.val + 32 * q.val + 32 ≤ 2048; omega
  | ⟨1, _⟩ => show 0 + 2 ≤ 2; omega
  | ⟨2, _⟩ => show 0 + 256 ≤ 256; omega

/-- The row of scales `4 kt + r`. -/
def scaleRow (kt : Fin 16) (r : Fin 4) : P F (Vec F S1x256 .bf16) :=
  Prog.lift (.load arg14 (Rect.unit (s := S64x256) ![4 * kt.val + r.val, 0] S1x256.size (inb14 kt r)).toLoadRect (View.loadsAt_vmem h_S1x256))

/-- A store of quarter `q` of tile `kt` into the weight buffer `wt`, which first reads what is there. -/
def putQuarter (wt : Memref sig .tc .vmem S2048x2x256 .bf16) (hwt : wt.IsWhole) (kt : Fin 16) (q : Fin 4) (v : FVec F S32x2x256 .bf16) : P F PUnit := do
  let _ : Vec F S32x2x256 .bf16 ← Prog.lift (.load wt (Rect.unit (s := S2048x2x256) ![128 * kt.val + 32 * q.val, 0, 0] S32x2x256.size (inb12 kt q)).toLoadRect (View.loadsAt_vmem h_S32x2x256))
  Prog.lift (.store wt (Rect.unit (s := S2048x2x256) ![128 * kt.val + 32 * q.val, 0, 0] S32x2x256.size (inb12 kt q)) v Finset.univ (View.stores_vmem h_S32x2x256 ((hwt.pairWhole rank2_S2048x2x256).storeExact_slice rfl _ (Rect.wholeRows_unit rank2_S2048x2x256 rfl rfl) pairs_S2048x2x256_bf16) (fun _ => rfl)) (.inl rfl))

/-- One tile: 128 packed columns of 256 rows of weights become 256 rows of numbers. -/
def tile (wt : Memref sig .tc .vmem S2048x2x256 .bf16) (hwt : wt.IsWhole) (table : IVec S128x128 32) (plane : IVec S32x256 32)
    (w : Fin 2 → Nat) (hw : ∀ a, w a + S256x128.size a ≤ S11008x2048.size a) (kt : Fin 16) : P F PUnit := do
  let packed : Vec F S256x128 .i8 ← Prog.lift (.load arg11 (Rect.unit (s := S11008x2048) w S256x128.size hw).toLoadRect (View.loadsAt_vmem h_S256x128))
  let a ← scaleRow arg14 kt 0
  let b ← scaleRow arg14 kt 1
  let c ← scaleRow arg14 kt 2
  let d ← scaleRow arg14 kt 3
  putQuarter wt hwt kt 0 (stored table plane (words packed) (scales a b c d) 0)
  putQuarter wt hwt kt 1 (stored table plane (words packed) (scales a b c d) 1)
  putQuarter wt hwt kt 2 (stored table plane (words packed) (scales a b c d) 2)
  putQuarter wt hwt kt 3 (stored table plane (words packed) (scales a b c d) 3)

/-- A block's scales, left in the scratch buffer. -/
def putScales (o4 : Fin 2 → Nat) (h4 : ∀ a, o4 a + S256x64.size a ≤ S11008x64.size a) (o5 : Fin 2 → Nat) (h5 : ∀ a, o5 a + S1x256.size a ≤ S1x11008.size a) : P F PUnit := do
  let codes : Vec F S256x64 .i8 ← Prog.lift (.load arg4 (Rect.unit (s := S11008x64) o4 S256x64.size h4).toLoadRect (View.loadsAt_vmem h_S256x64))
  let s2 : Vec F S1x256 .f32 ← Prog.lift (.load arg5 (Rect.unit (s := S1x11008) o5 S1x256.size h5).toLoadRect (View.loadsAt_vmem h_S1x256))
  let off : Elt F .f32 ← smemLoad arg6 (Rect.unit (s := S1x1) ![0, 0] S1x1.size inb_S1x1_S1x1_0_0) numel1_S1x1 rfl
  let _ : Vec F S64x256 .bf16 ← Prog.lift (.load arg14 (Rect.unit (s := S64x256) ![0, 0] S64x256.size inb_S64x256_S64x256_0_0).toLoadRect (View.loadsAt_vmem h_S64x256))
  Prog.lift (.store arg14 (Rect.unit (s := S64x256) ![0, 0] S64x256.size inb_S64x256_S64x256_0_0) (shapeCast S64x256 (absmax codes s2 off) shapeCasts_S64x256_S64x256) Finset.univ (View.stores_vmem h_S64x256 (harg14.storeExact_slice rfl _ packedbf16_S64x256_S64x256_0_0) (fun _ => rfl)) (.inl rfl))

/-- One block of 256 rows of weights becomes numbers in `wt`. -/
def dequant (wt : Memref sig .tc .vmem S2048x2x256 .bf16) (hwt : wt.IsWhole) (table : IVec S128x128 32) (plane : IVec S32x256 32)
    (o4 : Fin 2 → Nat) (h4 : ∀ a, o4 a + S256x64.size a ≤ S11008x64.size a) (o5 : Fin 2 → Nat) (h5 : ∀ a, o5 a + S1x256.size a ≤ S1x11008.size a)
    (w : Fin 16 → Fin 2 → Nat) (hw : ∀ kt a, w kt a + S256x128.size a ≤ S11008x2048.size a) : P F PUnit := do
  putScales arg4 arg5 arg6 arg14 harg14 o4 h4 o5 h5
  seqFin 16 fun kt => tile arg11 arg14 wt hwt table plane (w kt) (hw kt) kt

/-- The product of a block whose weights are read. -/
def multiplyRest (lo hi : FVec F S2048x256 .bf16) (h : FVec F S128x64 .bf16)
    (o8 : Fin 2 → Nat) (h8 : ∀ a, o8 a + S256x64.size a ≤ S11008x64.size a) (o9 : Fin 2 → Nat) (h9 : ∀ a, o9 a + S1x256.size a ≤ S1x11008.size a)
    (o10 : Fin 2 → Nat) (h10 : ∀ a, o10 a + S128x256.size a ≤ S128x11008.size a)
    (p10 : (Rect.unit (s := S128x11008) o10 S128x256.size h10).PackedRows (EltTy.packing .bf16)) : P F PUnit := do
  let xp : Vec F S128x4096 .bf16 ← Prog.lift (.load arg1 (Rect.unit (s := S128x4096) ![0, 0] S128x4096.size inb_S128x4096_S128x4096_0_0).toLoadRect (View.loadsAt_vmem h_S128x4096))
  let lb : Vec F S256x64 .bf16 ← Prog.lift (.load arg8 (Rect.unit (s := S11008x64) o8 S256x64.size h8).toLoadRect (View.loadsAt_vmem h_S256x64))
  let bias : Vec F S1x256 .f32 ← Prog.lift (.load arg9 (Rect.unit (s := S1x11008) o9 S1x256.size h9).toLoadRect (View.loadsAt_vmem h_S1x256))
  let _ : Vec F S128x256 .bf16 ← Prog.lift (.load arg10 (Rect.unit (s := S128x11008) o10 S128x256.size h10).toLoadRect (View.loadsAt_vmem h_S128x256))
  Prog.lift (.store arg10 (Rect.unit (s := S128x11008) o10 S128x256.size h10) (product h lo hi xp lb bias) Finset.univ (View.stores_vmem h_S128x256 (harg10.storeExact_slice rfl _ p10) (fun _ => rfl)) (.inl rfl))

/-- The product of a block, left in the result's columns. -/
def multiply (wt : Memref sig .tc .vmem S2048x2x256 .bf16) (h : FVec F S128x64 .bf16)
    (o8 : Fin 2 → Nat) (h8 : ∀ a, o8 a + S256x64.size a ≤ S11008x64.size a) (o9 : Fin 2 → Nat) (h9 : ∀ a, o9 a + S1x256.size a ≤ S1x11008.size a)
    (o10 : Fin 2 → Nat) (h10 : ∀ a, o10 a + S128x256.size a ≤ S128x11008.size a)
    (p10 : (Rect.unit (s := S128x11008) o10 S128x256.size h10).PackedRows (EltTy.packing .bf16)) : P F PUnit := do
  let weights : Vec F S2048x2x256 .bf16 ← Prog.lift (.load wt (Rect.unit (s := S2048x2x256) ![0, 0, 0] S2048x2x256.size inb_S2048x2x256_S2048x2x256_0_0_0).toLoadRect (View.loadsAt_vmem h_S2048x2x256))
  multiplyRest arg1 arg8 arg9 arg10 harg10 (evenRows weights) (oddRows weights) h o8 h8 o9 h9 o10 h10 p10

/-- The wait for the copy of the rows at `o2`, on the cell at `o1`. -/
def await (o1 : Fin 1 → Nat) (h1 : ∀ a, o1 a + S1.size a ≤ S43.size a) (o2 : Fin 2 → Nat) (h2 : ∀ a, o2 a + S256x2048.size a ≤ S11008x2048.size a)
    (w2 : (Rect.unit (s := S11008x2048) o2 S256x2048.size h2).WholeWords (EltTy.packing .i8)) : P F PUnit :=
  Prog.lift (.waitDma2 ((arg15.slice (Rect.unit (s := S43) o1 S1.size h1)).squeeze S_ squeezes_S1_S_).sem
    (arg2.slice (Rect.unit (s := S11008x2048) o2 S256x2048.size h2) (fun _ => rfl))
    (arg11.slice (Rect.unit (s := S11008x2048) o2 S256x2048.size h2) (fun _ => rfl))
    (harg2.wordExact_slice rfl _ w2) (harg11.wordExact_slice rfl _ w2))

omit [Facts] in
/-- A block's cell. -/
theorem inb15 (i : Fin 43) : ∀ a, (![i.val] : Fin 1 → Nat) a + S1.size a ≤ S43.size a := by
  intro a
  match a with
  | ⟨0, _⟩ => show i.val + 1 ≤ 43; omega

omit [Facts] in
/-- A block's rows. -/
theorem inb2 (i : Fin 43) : ∀ a, (![256 * i.val, 0] : Fin 2 → Nat) a + S256x2048.size a ≤ S11008x2048.size a := by
  intro a
  match a with
  | ⟨0, _⟩ => show 256 * i.val + 256 ≤ 11008; omega
  | ⟨1, _⟩ => show 0 + 2048 ≤ 2048; omega

omit [Facts] in
/-- A block's rows are whole words. -/
theorem words2 (i : Fin 43) : (Rect.unit (s := S11008x2048) ![256 * i.val, 0] S256x2048.size (inb2 i)).WholeWords (EltTy.packing .i8) := by
  revert i; decide +kernel

/-- The copy of block `i`'s rows into VMEM, on its own cell. -/
def fetch (i : Fin 43) : P F PUnit :=
  Prog.lift (.enqueueDma (arg2.slice (Rect.unit (s := S11008x2048) ![256 * i.val, 0] S256x2048.size (inb2 i)) (fun _ => rfl))
    (.here (arg11.slice (Rect.unit (s := S11008x2048) ![256 * i.val, 0] S256x2048.size (inb2 i)) (fun _ => rfl)))
    (.dma ((arg15.slice (Rect.unit (s := S43) ![i.val] S1.size (inb15 i))).squeeze S_ squeezes_S1_S_).sem)
    (harg2.wordExact_slice rfl _ (words2 i)) (harg11.wordExact_slice rfl _ (words2 i)) ⟨Or.inl rfl, trivial⟩)

/-- Where the sixteen tiles of block `2 t + c` of trip `t` are. -/
def tileOff (t : Fin k0_t1_loop.trips) (c : BitVec 32) : Fin 16 → Fin 2 → Nat :=
  ![k0_off8 t c, k0_off9 t c, k0_off10 t c, k0_off11 t c, k0_off12 t c, k0_off13 t c, k0_off14 t c, k0_off15 t c,
    k0_off16 t c, k0_off17 t c, k0_off18 t c, k0_off19 t c, k0_off20 t c, k0_off21 t c, k0_off22 t c, k0_off23 t c]

/-- They are in the buffer. -/
theorem tileOff_inb (t : Fin k0_t1_loop.trips) (r : Fin 2) :
    ∀ kt a, tileOff t (BitVec.ofNat 32 (1 + r.val)) kt a + S256x128.size a ≤ S11008x2048.size a := by
  intro kt
  match kt with
  | ⟨0, _⟩ => exact k0_off8_inb t r
  | ⟨1, _⟩ => exact k0_off9_inb t r
  | ⟨2, _⟩ => exact k0_off10_inb t r
  | ⟨3, _⟩ => exact k0_off11_inb t r
  | ⟨4, _⟩ => exact k0_off12_inb t r
  | ⟨5, _⟩ => exact k0_off13_inb t r
  | ⟨6, _⟩ => exact k0_off14_inb t r
  | ⟨7, _⟩ => exact k0_off15_inb t r
  | ⟨8, _⟩ => exact k0_off16_inb t r
  | ⟨9, _⟩ => exact k0_off17_inb t r
  | ⟨10, _⟩ => exact k0_off18_inb t r
  | ⟨11, _⟩ => exact k0_off19_inb t r
  | ⟨12, _⟩ => exact k0_off20_inb t r
  | ⟨13, _⟩ => exact k0_off21_inb t r
  | ⟨14, _⟩ => exact k0_off22_inb t r
  | ⟨15, _⟩ => exact k0_off23_inb t r
  | ⟨n + 16, h⟩ => omega

/-- One trip: two blocks arrive; the product of the block in `wt_a`; the next block into `wt_b`; its product; the
    block after into `wt_a`. -/
def trip (h : FVec F S128x64 .bf16) (table : IVec S128x128 32) (plane : IVec S32x256 32) (t : Fin k0_t1_loop.trips) : P F PUnit := do
  await arg2 harg2 arg11 harg11 arg15 (k0_off1 t 1#32) (k0_off1_inb t 0) (k0_off2 t 1#32) (k0_off2_inb t 0) (k0_off2_wordsi8 t 0)
  await arg2 harg2 arg11 harg11 arg15 (k0_off1 t 2#32) (k0_off1_inb t 1) (k0_off2 t 2#32) (k0_off2_inb t 1) (k0_off2_wordsi8 t 1)
  multiply arg1 arg8 arg9 arg10 harg10 arg12 h (k0_off3 t) (k0_off3_inb t) (k0_off4 t) (k0_off4_inb t) (k0_off5 t) (k0_off5_inb t) (k0_off5_packedbf16 t)
  dequant arg4 arg5 arg6 arg11 arg14 harg14 arg13 harg13 table plane (k0_off6 t 1#32) (k0_off6_inb t 0) (k0_off7 t 1#32) (k0_off7_inb t 0) (tileOff t 1#32) (tileOff_inb t 0)
  multiply arg1 arg8 arg9 arg10 harg10 arg13 h (k0_off6 t 1#32) (k0_off6_inb t 0) (k0_off7 t 1#32) (k0_off7_inb t 0) (k0_off24 t) (k0_off24_inb t) (k0_off24_packedbf16 t)
  dequant arg4 arg5 arg6 arg11 arg14 harg14 arg12 harg12 table plane (k0_off6 t 2#32) (k0_off6_inb t 1) (k0_off7 t 2#32) (k0_off7_inb t 1) (tileOff t 2#32) (tileOff_inb t 1)

omit [Facts] in
/-- Where the sixteen tiles of the first block are. -/
theorem inb11 (kt : Fin 16) : ∀ a, (![0, 128 * kt.val] : Fin 2 → Nat) a + S256x128.size a ≤ S11008x2048.size a := by
  intro a
  match a with
  | ⟨0, _⟩ => show 0 + 256 ≤ 11008; omega
  | ⟨1, _⟩ => show 128 * kt.val + 128 ≤ 2048; omega

/-- The whole body. -/
def body : P F PUnit := do
  seqFin 43 (fetch arg2 harg2 arg11 harg11 arg15)
  let x : Vec F S128x4096 .bf16 ← Prog.lift (.load arg0 (Rect.unit (s := S128x4096) ![0, 0] S128x4096.size inb_S128x4096_S128x4096_0_0).toLoadRect (View.loadsAt_vmem h_S128x4096))
  let la : Vec F S64x4096 .bf16 ← Prog.lift (.load arg7 (Rect.unit (s := S64x4096) ![0, 0] S64x4096.size inb_S64x4096_S64x4096_0_0).toLoadRect (View.loadsAt_vmem h_S64x4096))
  let t : Vec F S16x256 .i16 ← Prog.lift (.load arg3 (Rect.unit (s := S16x256) ![0, 0] S16x256.size inb_S16x256_S16x256_0_0).toLoadRect (View.loadsAt_vmem h_S16x256))
  await arg2 harg2 arg11 harg11 arg15 ![0] inb_S43_S1_0 ![0, 0] inb_S11008x2048_S256x2048_0_0 wordsi8_S11008x2048_S256x2048_0_0
  dequant arg4 arg5 arg6 arg11 arg14 harg14 arg12 harg12 (laneTable t) planes ![0, 0] inb_S11008x64_S256x64_0_0 ![0, 0] inb_S1x11008_S1x256_0_0 (fun kt => ![0, 128 * kt.val]) inb11
  Scf.Loop.for k0_t1_loop k0_t1_ok ⟨⟩ fun k0_t1 _ => trip arg1 arg2 harg2 arg4 arg5 arg6 arg8 arg9 arg10 harg10 arg11 harg11 arg12 harg12 arg13 harg13 arg14 harg14 arg15 (inner x la) (laneTable t) planes k0_t1
  multiply arg1 arg8 arg9 arg10 harg10 arg12 (inner x la) ![10752, 0] inb_S11008x64_S256x64_10752_0 ![0, 10752] inb_S1x11008_S1x256_0_10752 ![0, 10752] inb_S128x11008_S128x256_0_10752 packedbf16_S128x11008_S128x256_0_10752

/-- The whole body, its last steps grouped as they are printed. -/
def grouped : P F PUnit :=
  (do
    seqFin 43 (fetch arg2 harg2 arg11 harg11 arg15)
    let x : Vec F S128x4096 .bf16 ← Prog.lift (.load arg0 (Rect.unit (s := S128x4096) ![0, 0] S128x4096.size inb_S128x4096_S128x4096_0_0).toLoadRect (View.loadsAt_vmem h_S128x4096))
    let la : Vec F S64x4096 .bf16 ← Prog.lift (.load arg7 (Rect.unit (s := S64x4096) ![0, 0] S64x4096.size inb_S64x4096_S64x4096_0_0).toLoadRect (View.loadsAt_vmem h_S64x4096))
    let t : Vec F S16x256 .i16 ← Prog.lift (.load arg3 (Rect.unit (s := S16x256) ![0, 0] S16x256.size inb_S16x256_S16x256_0_0).toLoadRect (View.loadsAt_vmem h_S16x256))
    await arg2 harg2 arg11 harg11 arg15 ![0] inb_S43_S1_0 ![0, 0] inb_S11008x2048_S256x2048_0_0 wordsi8_S11008x2048_S256x2048_0_0
    dequant arg4 arg5 arg6 arg11 arg14 harg14 arg12 harg12 (laneTable t) planes ![0, 0] inb_S11008x64_S256x64_0_0 ![0, 0] inb_S1x11008_S1x256_0_0 (fun kt => ![0, 128 * kt.val]) inb11
    (((Scf.Loop.for k0_t1_loop k0_t1_ok ⟨⟩ fun k0_t1 _ => trip arg1 arg2 harg2 arg4 arg5 arg6 arg8 arg9 arg10 harg10 arg11 harg11 arg12 harg12 arg13 harg13 arg14 harg14 arg15 (inner x la) (laneTable t) planes k0_t1) >>= fun _ =>
      Prog.lift (.load arg12 (Rect.unit (s := S2048x2x256) ![0, 0, 0] S2048x2x256.size inb_S2048x2x256_S2048x2x256_0_0_0).toLoadRect (View.loadsAt_vmem h_S2048x2x256)) >>= fun w => pure (⟨10752#32, w⟩ : Σ' (_ : BitVec 32), Vec F S2048x2x256 .bf16)) >>= fun p =>
      pure (⟨inner x la, p.1, p.2, evenRows p.2⟩ : Σ' (_ : FVec F S128x64 .bf16) (_ : BitVec 32) (_ : Vec F S2048x2x256 .bf16), FVec F S2048x256 .bf16))) >>= fun r => multiplyRest arg1 arg8 arg9 arg10 harg10 r.2.2.2 (oddRows r.2.2.1) r.1 ![10752, 0] inb_S11008x64_S256x64_10752_0 ![0, 10752] inb_S1x11008_S1x256_0_10752 ![0, 10752] inb_S128x11008_S128x256_0_10752 packedbf16_S128x11008_S128x256_0_10752

set_option maxRecDepth 100000 in
/-- The grouped body is the printed one. -/
theorem grouped_eq : cc0__body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15
    = grouped arg0 arg1 arg2 harg2 arg3 arg4 arg5 arg6 arg7 arg8 arg9 arg10 harg10 arg11 harg11 arg12 harg12 arg13 harg13 arg14 harg14 arg15 := by
  sl_kernel_rfl

/-- The body is the printed one. -/
theorem body_eq : cc0__body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15
    = body arg0 arg1 arg2 harg2 arg3 arg4 arg5 arg6 arg7 arg8 arg9 arg10 harg10 arg11 harg11 arg12 harg12 arg13 harg13 arg14 harg14 arg15 := by
  rw [grouped_eq]
  unfold grouped body multiply
  simp only [Prog.bind_assoc]
  rfl

end Programs

end Cert.KernelIdeal.Shape
-- ==== Proof.IdealRun.lean ====
/- What the kernel's body does over the reals, step by step: which contents each step leaves in which buffer. The last
   theorem states the whole body: from its operands it leaves, in the result, every block of 256 columns the product of
   the block's dequantised weights. -/
module

public import proofs.«01_k».proof.Proof.IdealShape
public import proofs.«01_k».proof.Proof.Rules
public import Idealize.ShloMosaic.Lib.Pipeline.FrameBody
public import Idealize.ShloMosaic.Lib.Scf

@[expose] public section

noncomputable section

namespace Cert.KernelIdeal.Run

open Cert.KernelIdeal Cert.KernelIdeal.Shape Cert.Rules
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]
variable [Facts]
open Facts₀ Facts

local notation "𝕄" => MT nD τ sig Unit (Elt F) ℕ (Pipeline.UD sig nD τ) ℕ

/-! ## Contents -/

omit [Facts] in
/-- A block's rows of codes, or of the adapter, are in the array. -/
theorem inb4 (b : Fin 43) : ∀ a, (![256 * b.val, 0] : Fin 2 → Nat) a + S256x64.size a ≤ S11008x64.size a := by
  intro a
  match a with
  | ⟨0, _⟩ => show 256 * b.val + 256 ≤ 11008; omega
  | ⟨1, _⟩ => show 0 + 64 ≤ 64; omega

omit [Facts] in
/-- A block's steps, or biases, are in the array. -/
theorem inb5 (b : Fin 43) : ∀ a, (![0, 256 * b.val] : Fin 2 → Nat) a + S1x256.size a ≤ S1x11008.size a := by
  intro a
  match a with
  | ⟨0, _⟩ => show 0 + 1 ≤ 1; omega
  | ⟨1, _⟩ => show 256 * b.val + 256 ≤ 11008; omega

omit [Facts] in
/-- A block's columns are in the result. -/
theorem inb10 (b : Fin 43) : ∀ a, (![0, 256 * b.val] : Fin 2 → Nat) a + S128x256.size a ≤ S128x11008.size a := by
  intro a
  match a with
  | ⟨0, _⟩ => show 0 + 128 ≤ 128; omega
  | ⟨1, _⟩ => show 256 * b.val + 256 ≤ 11008; omega

omit [Facts] in
/-- A tile is in the packed weights. -/
theorem inbTile (b : Fin 43) (kt : Fin 16) : ∀ a, (![256 * b.val, 128 * kt.val] : Fin 2 → Nat) a + S256x128.size a ≤ S11008x2048.size a := by
  intro a
  match a with
  | ⟨0, _⟩ => show 256 * b.val + 256 ≤ 11008; omega
  | ⟨1, _⟩ => show 128 * kt.val + 128 ≤ 2048; omega

/-- A block's scales. -/
def scaleOf (X4 : IVec S11008x64 8) (X5 : FVec F S1x11008 .f32) (X6 : FVec F S1x1 .f32) (b : Fin 43) : FVec F S64x256 .bf16 :=
  shapeCast S64x256 (absmax (fun j => X4 ((Rect.unit (s := S11008x64) ![256 * b.val, 0] S256x64.size (inb4 b)).emb j))
    (fun j => X5 ((Rect.unit (s := S1x11008) ![0, 256 * b.val] S1x256.size (inb5 b)).emb j))
    (X6 ((Rect.unit (s := S1x1) ![0, 0] S1x1.size inb_S1x1_S1x1_0_0).emb (Shape.Idx.first (numel1_S1x1.symm ▸ Nat.one_pos))))) shapeCasts_S64x256_S64x256

/-- A row of scales. -/
def rowOf (sc : FVec F S64x256 .bf16) (kt : Fin 16) (r : Fin 4) : FVec F S1x256 .bf16 :=
  fun j => sc ((Rect.unit (s := S64x256) ![4 * kt.val + r.val, 0] S1x256.size (inb14 kt r)).emb j)

/-- What quarter `q` of tile `kt` of block `b` stores. -/
def quarterOf (table : IVec S128x128 32) (plane : IVec S32x256 32) (W : IVec S11008x2048 8) (sc : FVec F S64x256 .bf16)
    (b : Fin 43) (kt : Fin 16) (q : Nat) : FVec F S32x2x256 .bf16 :=
  stored table plane (words fun j => W ((Rect.unit (s := S11008x2048) ![256 * b.val, 128 * kt.val] S256x128.size (inbTile b kt)).emb j))
    (scales (rowOf sc kt 0) (rowOf sc kt 1) (rowOf sc kt 2) (rowOf sc kt 3)) q

/-- A place of the weight buffer, inside its quarter. -/
def inQuarter (i : S2048x2x256.Idx) : S32x2x256.Idx := fun
  | ⟨0, _⟩ => ⟨(i 0).val % 32, Nat.mod_lt _ (by decide)⟩
  | ⟨1, _⟩ => ⟨(i 1).val, (i 1).isLt⟩
  | ⟨2, _⟩ => ⟨(i 2).val, (i 2).isLt⟩

omit [Facts] in
theorem tile_lt (i : S2048x2x256.Idx) : (i 0).val / 128 < 16 := by
  have h : (i 0).val < 2048 := (i 0).isLt
  omega

/-- A block's weights. -/
def wtOf (table : IVec S128x128 32) (plane : IVec S32x256 32) (W : IVec S11008x2048 8) (sc : FVec F S64x256 .bf16)
    (b : Fin 43) : FVec F S2048x2x256 .bf16 := fun i =>
  quarterOf table plane W sc b ⟨(i 0).val / 128, tile_lt i⟩ ((i 0).val / 32 % 4) (inQuarter i)

/-- The columns of the result that block `b` gives, from its weights. -/
def columnsOf (h : FVec F S128x64 .bf16) (wt : FVec F S2048x2x256 .bf16) (X1 : FVec F S128x4096 .bf16) (X8 : FVec F S11008x64 .bf16)
    (X9 : FVec F S1x11008 .f32) (b : Fin 43) : FVec F S128x256 .bf16 :=
  product h (evenRows fun j => wt ((Rect.unit (s := S2048x2x256) ![0, 0, 0] S2048x2x256.size inb_S2048x2x256_S2048x2x256_0_0_0).emb j))
    (oddRows fun j => wt ((Rect.unit (s := S2048x2x256) ![0, 0, 0] S2048x2x256.size inb_S2048x2x256_S2048x2x256_0_0_0).emb j))
    (fun j => X1 ((Rect.unit (s := S128x4096) ![0, 0] S128x4096.size inb_S128x4096_S128x4096_0_0).emb j))
    (fun j => X8 ((Rect.unit (s := S11008x64) ![256 * b.val, 0] S256x64.size (inb4 b)).emb j))
    (fun j => X9 ((Rect.unit (s := S1x11008) ![0, 256 * b.val] S1x256.size (inb5 b)).emb j))

omit [Facts] in
theorem block_lt (i : S128x11008.Idx) : (i 1).val / 256 < 43 := by
  have h : (i 1).val < 11008 := (i 1).isLt
  omega

/-- A place of the result, inside its block. -/
def inBlock (i : S128x11008.Idx) : S128x256.Idx := fun
  | ⟨0, _⟩ => ⟨(i 0).val, (i 0).isLt⟩
  | ⟨1, _⟩ => ⟨(i 1).val % 256, Nat.mod_lt _ (by decide)⟩

/-- The result. -/
def outOf (h : FVec F S128x64 .bf16) (wt : Fin 43 → FVec F S2048x2x256 .bf16) (X1 : FVec F S128x4096 .bf16) (X8 : FVec F S11008x64 .bf16)
    (X9 : FVec F S1x11008 .f32) : FVec F S128x11008 .bf16 := fun i =>
  columnsOf h (wt ⟨(i 1).val / 256, block_lt i⟩) X1 X8 X9 ⟨(i 1).val / 256, block_lt i⟩ (inBlock i)

/-- `X` has the first `n` quarters of `Y`. -/
def Upto (n : Nat) (Y X : FVec F S2048x2x256 .bf16) : Prop := ∀ i, (i 0).val < 32 * n → X i = Y i

/-- `X` has the first `n` blocks of columns of `Y`. -/
def Columns (n : Nat) (Y X : FVec F S128x11008 .bf16) : Prop := ∀ i, (i 1).val < 256 * n → X i = Y i

/-- A quarter stored brings the weights one quarter further. -/
theorem upto_succ (table : IVec S128x128 32) (plane : IVec S32x256 32) (W : IVec S11008x2048 8) (sc : FVec F S64x256 .bf16) (b : Fin 43)
    (kt : Fin 16) (q : Fin 4) (X Y : FVec F S2048x2x256 .bf16) (hX : Upto (4 * kt.val + q.val) (wtOf table plane W sc b) X)
    (hY : ∀ j, Y ((Rect.unit (s := S2048x2x256) ![128 * kt.val + 32 * q.val, 0, 0] S32x2x256.size (inb12 kt q)).emb j) = quarterOf table plane W sc b kt q.val j)
    (hr : ∀ i, (∀ j, (Rect.unit (s := S2048x2x256) ![128 * kt.val + 32 * q.val, 0, 0] S32x2x256.size (inb12 kt q)).emb j ≠ i) → Y i = X i) :
    Upto (4 * kt.val + q.val + 1) (wtOf table plane W sc b) Y := by
  intro i hi
  by_cases hlt : (i 0).val < 32 * (4 * kt.val + q.val)
  · rw [hr i ?_]
    · exact hX i hlt
    · rintro j rfl
      have h0 : ((Rect.unit (s := S2048x2x256) ![128 * kt.val + 32 * q.val, 0, 0] S32x2x256.size (inb12 kt q)).emb j 0).val = 128 * kt.val + 32 * q.val + 1 * (j 0).val := rfl
      rw [h0] at hlt
      omega
  · have he : (Rect.unit (s := S2048x2x256) ![128 * kt.val + 32 * q.val, 0, 0] S32x2x256.size (inb12 kt q)).emb (inQuarter i) = i := by
      funext a
      refine Fin.ext ?_
      match a with
      | ⟨0, _⟩ => show 128 * kt.val + 32 * q.val + 1 * ((i 0).val % 32) = (i 0).val; omega
      | ⟨1, _⟩ => show 0 + 1 * (i 1).val = (i 1).val; omega
      | ⟨2, _⟩ => show 0 + 1 * (i 2).val = (i 2).val; omega
    have h1 := hY (inQuarter i)
    rw [he] at h1
    rw [h1]
    unfold wtOf
    have hk : (⟨(i 0).val / 128, tile_lt i⟩ : Fin 16) = kt := Fin.ext (by show (i 0).val / 128 = kt.val; omega)
    have hq : (i 0).val / 32 % 4 = q.val := by omega
    rw [hk, hq]

/-- A block stored brings the result one block further. -/
theorem columns_succ (h : FVec F S128x64 .bf16) (wt : Fin 43 → FVec F S2048x2x256 .bf16) (X1 : FVec F S128x4096 .bf16) (X8 : FVec F S11008x64 .bf16)
    (X9 : FVec F S1x11008 .f32) (b : Fin 43) (X Y : FVec F S128x11008 .bf16) (hX : Columns b.val (outOf h wt X1 X8 X9) X)
    (hY : ∀ j, Y ((Rect.unit (s := S128x11008) ![0, 256 * b.val] S128x256.size (inb10 b)).emb j) = columnsOf h (wt b) X1 X8 X9 b j)
    (hr : ∀ i, (∀ j, (Rect.unit (s := S128x11008) ![0, 256 * b.val] S128x256.size (inb10 b)).emb j ≠ i) → Y i = X i) :
    Columns (b.val + 1) (outOf h wt X1 X8 X9) Y := by
  intro i hi
  by_cases hlt : (i 1).val < 256 * b.val
  · rw [hr i ?_]
    · exact hX i hlt
    · rintro j rfl
      have h0 : ((Rect.unit (s := S128x11008) ![0, 256 * b.val] S128x256.size (inb10 b)).emb j 1).val = 256 * b.val + 1 * (j 1).val := rfl
      rw [h0] at hlt
      omega
  · have he : (Rect.unit (s := S128x11008) ![0, 256 * b.val] S128x256.size (inb10 b)).emb (inBlock i) = i := by
      funext a
      refine Fin.ext ?_
      match a with
      | ⟨0, _⟩ => show 0 + 1 * (i 0).val = (i 0).val; omega
      | ⟨1, _⟩ => show 256 * b.val + 1 * ((i 1).val % 256) = (i 1).val; omega
    have h1 := hY (inBlock i)
    rw [he] at h1
    rw [h1]
    unfold outOf
    have hb : (⟨(i 1).val / 256, block_lt i⟩ : Fin 43) = b := Fin.ext (by show (i 1).val / 256 = b.val; omega)
    rw [hb]

/-! ## Steps -/

section Steps

variable (c : Dev nD)
variable (arg0 : Memref sig .tc .vmem S128x4096 .bf16) (harg0 : arg0.IsWhole) (arg1 : Memref sig .tc .vmem S128x4096 .bf16) (harg1 : arg1.IsWhole) (arg2 : Memref sig .tc .hbm S11008x2048 .i8) (harg2 : arg2.IsWhole) (arg3 : Memref sig .tc .vmem S16x256 .i16) (harg3 : arg3.IsWhole) (arg4 : Memref sig .tc .vmem S11008x64 .i8) (harg4 : arg4.IsWhole) (arg5 : Memref sig .tc .vmem S1x11008 .f32) (harg5 : arg5.IsWhole) (arg6 : Memref sig .tc .smem S1x1 .f32) (harg6 : arg6.IsWhole) (arg7 : Memref sig .tc .vmem S64x4096 .bf16) (harg7 : arg7.IsWhole) (arg8 : Memref sig .tc .vmem S11008x64 .bf16) (harg8 : arg8.IsWhole) (arg9 : Memref sig .tc .vmem S1x11008 .f32) (harg9 : arg9.IsWhole) (arg10 : Memref sig .tc .vmem S128x11008 .bf16) (harg10 : arg10.IsWhole) (arg11 : Memref sig .tc .vmem S11008x2048 .i8) (harg11 : arg11.IsWhole) (arg12 : Memref sig .tc .vmem S2048x2x256 .bf16) (harg12 : arg12.IsWhole) (arg13 : Memref sig .tc .vmem S2048x2x256 .bf16) (harg13 : arg13.IsWhole) (arg14 : Memref sig .tc .vmem S64x256 .bf16) (harg14 : arg14.IsWhole) (arg15 : DmaSems sig S43)
variable (X0 : FVec F S128x4096 .bf16) (X1 : FVec F S128x4096 .bf16) (W : IVec S11008x2048 8) (X3 : IVec S16x256 16) (X4 : IVec S11008x64 8) (X5 : FVec F S1x11008 .f32)
  (X6 : FVec F S1x1 .f32) (X7 : FVec F S64x4096 .bf16) (X8 : FVec F S11008x64 .bf16) (X9 : FVec F S1x11008 .f32)
variable (table : IVec S128x128 32) (plane : IVec S32x256 32) (h : FVec F S128x64 .bf16)

/-- The weakest precondition of a program of the body. -/
abbrev WP {α : Type} (p : P F α) (Q : α → sProp 𝕄) : sProp 𝕄 :=
  wp frame (wpE (defs₀ (F := F)) Variants.none (c : Thread nD τ) none) Set.univ p Q

theorem WP_bind {α β : Type} (p : P F α) (k : α → P F β) (Q : β → sProp 𝕄) : WP c (p >>= k) Q = WP c p fun a => WP c (k a) Q :=
  wp_bind _ _ _ p k Q

theorem WP_lift {α β : Type} (e : TpuEff nD τ sig (Elt F) Λ₀ .tc α) (k : α → P F β) (Q : β → sProp 𝕄) : WP c (Prog.lift e >>= k) Q = WP c (.op e k) Q := rfl

theorem WP_ret {α : Type} (v : α) (Q : α → sProp 𝕄) : Q v ⊢ WP c (.ret v) Q := by
  show Q v ⊢ wp frame (wpE (defs₀ (F := F)) Variants.none (c : Thread nD τ) none) Set.univ (.ret v) Q
  rw [wp_ret]
  iintro H
  imodintro
  iexact H

theorem WP_done (Q : PUnit → sProp 𝕄) : Q ⟨⟩ ⊢ WP c (.ret ⟨⟩) Q := by
  show Q ⟨⟩ ⊢ wp frame (wpE (defs₀ (F := F)) Variants.none (c : Thread nD τ) none) Set.univ (.ret ⟨⟩) Q
  rw [wp_ret]
  iintro H
  imodintro
  iexact H

/-- A sequence of steps each of which takes `I i` to `I (i + 1)`. -/
theorem seq_spec : ∀ (n b : Nat) (I : Nat → sProp 𝕄) (f : Fin n → P F PUnit)
    (hf : ∀ i Q, I (b + i.val) ⊢ iprop((I (b + i.val + 1) -∗ Q ⟨⟩) -∗ WP c (f i) Q)) (Q : PUnit → sProp 𝕄),
    I b ⊢ iprop((I (b + n) -∗ Q ⟨⟩) -∗ WP c (seqFin n f) Q)
  | 0, b, I, f, hf, Q => by
    show I b ⊢ iprop((I b -∗ Q ⟨⟩) -∗ WP c (.ret ⟨⟩) Q)
    iintro HI HK
    iapply (WP_done c Q)
    iapply HK $$ HI
  | n + 1, b, I, f, hf, Q => by
    show I b ⊢ iprop((I (b + (n + 1)) -∗ Q ⟨⟩) -∗ WP c (f 0 >>= fun _ => seqFin n fun i => f i.succ) Q)
    rw [WP_bind]
    iintro HI HK
    have h0 : I b ⊢ iprop((I (b + 1) -∗ WP c (seqFin n fun i => f i.succ) Q) -∗ WP c (f 0) fun _ => WP c (seqFin n fun i => f i.succ) Q) :=
      hf 0 (fun _ => WP c (seqFin n fun i => f i.succ) Q)
    iapply h0 $$ HI
    iintro HI
    have ih := seq_spec n (b + 1) I (fun i => f i.succ)
      (fun i Q => by rw [show b + 1 + i.val = b + i.succ.val by simp only [Fin.val_succ]; omega]; exact hf i.succ Q) Q
    rw [show b + 1 + n = b + (n + 1) by omega] at ih
    iapply ih $$ HI
    iexact HK

/-- A quarter stored. -/
theorem putQuarter_spec (wt : Memref sig .tc .vmem S2048x2x256 .bf16) (hwt : wt.IsWhole) (sc : FVec F S64x256 .bf16) (b : Fin 43) (kt : Fin 16) (q : Fin 4)
    (Q : PUnit → sProp 𝕄) :
    (ownsSat (c : Thread nD τ) wt fullShare (Upto (4 * kt.val + q.val) (wtOf table plane W sc b)) : sProp 𝕄)
      ⊢ iprop((ownsSat (c : Thread nD τ) wt fullShare (Upto (4 * kt.val + q.val + 1) (wtOf table plane W sc b)) -∗ Q ⟨⟩)
        -∗ WP c (putQuarter wt hwt kt q (quarterOf table plane W sc b kt q.val)) Q) := by
  unfold WP putQuarter
  rw [Prog.bind_lift]
  iintro H HK
  iapply (own_load_sat Variants.none (c : Thread nD τ) none) $$ H
  iintro %X H %hX
  iapply (own_store Variants.none (c : Thread nD τ) none (Φ := Upto (4 * kt.val + q.val) (wtOf table plane W sc b))
    (fun X Y hX hY hr => upto_succ table plane W sc b kt q X Y hX hY hr)) $$ [H]
  · iapply (ownsSat_intro (c : Thread nD τ) wt fullShare hX); iexact H
  iintro H
  iapply (WP_done c Q)
  iapply HK $$ H

/-- Block `i`'s rows of the packed weights in VMEM. -/
abbrev slab (i : Fin 43) : sProp 𝕄 :=
  owns (c : Thread nD τ) (arg11.slice (Rect.unit (s := S11008x2048) ![256 * i.val, 0] S256x2048.size (inb2 i)) (fun _ => rfl)) fullShare
    (fun j => W ((Rect.unit (s := S11008x2048) ![256 * i.val, 0] S256x2048.size (inb2 i)).emb j))

/-- Block `i`'s rows of the packed weights in HBM. -/
abbrev source (i : Fin 43) : sProp 𝕄 :=
  owns (c : Thread nD τ) (arg2.slice (Rect.unit (s := S11008x2048) ![256 * i.val, 0] S256x2048.size (inb2 i)) (fun _ => rfl)) fullShare
    (fun j => W ((Rect.unit (s := S11008x2048) ![256 * i.val, 0] S256x2048.size (inb2 i)).emb j))

omit [Facts] in
/-- A place of a tile, inside its block's rows. -/
theorem tile_in_rows (b : Fin 43) (kt : Fin 16) (j : (Rect.unit (s := S11008x2048) ![256 * b.val, 128 * kt.val] S256x128.size (inbTile b kt)).shape.Idx) :
    ∃ y : (Rect.unit (s := S11008x2048) ![256 * b.val, 0] S256x2048.size (inb2 b)).shape.Idx,
      (Rect.unit (s := S11008x2048) ![256 * b.val, 128 * kt.val] S256x128.size (inbTile b kt)).emb j
        = (Rect.unit (s := S11008x2048) ![256 * b.val, 0] S256x2048.size (inb2 b)).emb y := by
  have h : (Rect.unit (s := S11008x2048) ![256 * b.val, 128 * kt.val] S256x128.size (inbTile b kt)).emb j
      ∈ (Rect.unit (s := S11008x2048) ![256 * b.val, 0] S256x2048.size (inb2 b)).set := by
    rw [Rect.mem_set_unit]
    intro a
    match a with
    | ⟨0, _⟩ =>
      have h0 : (j 0).val < 256 := (j 0).isLt
      show 256 * b.val ≤ 256 * b.val + 1 * (j 0).val ∧ 256 * b.val + 1 * (j 0).val < 256 * b.val + 256
      omega
    | ⟨1, _⟩ =>
      have h0 : (j 1).val < 128 := (j 1).isLt
      show 0 ≤ 128 * kt.val + 1 * (j 1).val ∧ 128 * kt.val + 1 * (j 1).val < 0 + 2048
      omega
  obtain ⟨y, hy⟩ := (Rect.unit (s := S11008x2048) ![256 * b.val, 0] S256x2048.size (inb2 b)).toLoadRect.exists_idx_of_mem h
  exact ⟨y, hy.symm⟩

/-- A tile: from the first `4 kt` quarters of the block's weights to the first `4 (kt + 1)`. -/
theorem tile_spec (wt : Memref sig .tc .vmem S2048x2x256 .bf16) (hwt : wt.IsWhole) (sc : FVec F S64x256 .bf16) (b : Fin 43) (kt : Fin 16)
    (w : Fin 2 → Nat) (hw : ∀ a, w a + S256x128.size a ≤ S11008x2048.size a) (ew : w = ![256 * b.val, 128 * kt.val]) (Q : PUnit → sProp 𝕄) :
    iprop(slab c arg11 W b ∗ owns (c : Thread nD τ) arg14 fullShare sc ∗ ownsSat (c : Thread nD τ) wt fullShare (Upto (4 * kt.val) (wtOf table plane W sc b)))
      ⊢ iprop((iprop(slab c arg11 W b ∗ owns (c : Thread nD τ) arg14 fullShare sc ∗ ownsSat (c : Thread nD τ) wt fullShare (Upto (4 * (kt.val + 1)) (wtOf table plane W sc b))) -∗ Q ⟨⟩)
        -∗ WP c (tile arg11 arg14 wt hwt table plane w hw kt) Q) := by
  subst ew
  unfold WP tile scaleRow
  choose g hg using tile_in_rows b kt
  rw [Prog.bind_lift]
  iintro ⟨Hw, Hs, Ht⟩ HK
  iapply (own_load_slice Variants.none (c : Thread nD τ) none g hg) $$ Hw
  iintro Hw
  rw [Prog.bind_lift]
  iapply (own_load Variants.none (c : Thread nD τ) none) $$ Hs
  iintro Hs
  rw [Prog.bind_lift]
  iapply (own_load Variants.none (c : Thread nD τ) none) $$ Hs
  iintro Hs
  rw [Prog.bind_lift]
  iapply (own_load Variants.none (c : Thread nD τ) none) $$ Hs
  iintro Hs
  rw [Prog.bind_lift]
  iapply (own_load Variants.none (c : Thread nD τ) none) $$ Hs
  iintro Hs
  rw [wp_bind]
  iapply (putQuarter_spec c W table plane wt hwt sc b kt 0 _) $$ Ht
  iintro Ht
  rw [wp_bind]
  iapply (putQuarter_spec c W table plane wt hwt sc b kt 1 _) $$ Ht
  iintro Ht
  rw [wp_bind]
  iapply (putQuarter_spec c W table plane wt hwt sc b kt 2 _) $$ Ht
  iintro Ht
  iapply (putQuarter_spec c W table plane wt hwt sc b kt 3 _) $$ Ht
  iintro Ht
  iapply HK
  isplitl [Hw]; · iexact Hw
  isplitl [Hs]; · iexact Hs
  iexact Ht

/-- A block's scales are put. -/
theorem putScales_spec (b : Fin 43) (o4 : Fin 2 → Nat) (h4 : ∀ a, o4 a + S256x64.size a ≤ S11008x64.size a) (e4 : o4 = ![256 * b.val, 0])
    (o5 : Fin 2 → Nat) (h5 : ∀ a, o5 a + S1x256.size a ≤ S1x11008.size a) (e5 : o5 = ![0, 256 * b.val]) (Q : PUnit → sProp 𝕄) :
    iprop(owns (c : Thread nD τ) arg4 fullShare X4 ∗ owns (c : Thread nD τ) arg5 fullShare X5 ∗ owns (c : Thread nD τ) arg6 fullShare X6
        ∗ ownsSat (c : Thread nD τ) arg14 fullShare (fun _ => True))
      ⊢ iprop((iprop(owns (c : Thread nD τ) arg4 fullShare X4 ∗ owns (c : Thread nD τ) arg5 fullShare X5 ∗ owns (c : Thread nD τ) arg6 fullShare X6
          ∗ owns (c : Thread nD τ) arg14 fullShare (scaleOf X4 X5 X6 b)) -∗ Q ⟨⟩)
        -∗ WP c (putScales arg4 arg5 arg6 arg14 harg14 o4 h4 o5 h5) Q) := by
  subst e4 e5
  unfold WP putScales
  iintro ⟨H4, H5, H6, Hs⟩ HK
  rw [Prog.bind_lift]
  iapply (own_load Variants.none (c : Thread nD τ) none) $$ H4
  iintro H4
  rw [Prog.bind_lift]
  iapply (own_load Variants.none (c : Thread nD τ) none) $$ H5
  iintro H5
  rw [wp_bind]
  unfold smemLoad smemLoadElt
  iapply (own_load Variants.none (c : Thread nD τ) none) $$ H6
  iintro H6
  rw [wp_ret]
  imodintro
  rw [Prog.bind_lift]
  iapply (own_load_sat Variants.none (c : Thread nD τ) none) $$ Hs
  iintro %X Hs %hX
  iapply (own_store Variants.none (c : Thread nD τ) none (Φ := fun _ => True) (Ψ := (· = scaleOf X4 X5 X6 b)) ?_) $$ [Hs]
  · intro X Y _ hY _
    funext i
    have he : (Rect.unit (s := S64x256) ![0, 0] S64x256.size inb_S64x256_S64x256_0_0).emb i = i := by
      funext a
      refine Fin.ext ?_
      match a with
      | ⟨0, _⟩ => show 0 + 1 * (i 0).val = (i 0).val; omega
      | ⟨1, _⟩ => show 0 + 1 * (i 1).val = (i 1).val; omega
    have h1 := hY i
    rw [he] at h1
    exact h1
  · iapply (ownsSat_intro (c : Thread nD τ) arg14 fullShare hX); iexact Hs
  iintro Hs
  iapply (WP_done c Q)
  iapply HK
  isplitl [H4]; · iexact H4
  isplitl [H5]; · iexact H5
  isplitl [H6]; · iexact H6
  rw [owns_eq_ownsSat]
  iexact Hs

/-- What a block's dequantisation reads and leaves as it was. -/
abbrev Quant (b : Fin 43) : sProp 𝕄 :=
  iprop(owns (c : Thread nD τ) arg4 fullShare X4 ∗ owns (c : Thread nD τ) arg5 fullShare X5 ∗ owns (c : Thread nD τ) arg6 fullShare X6 ∗ slab c arg11 W b)

/-- A block becomes numbers. -/
theorem dequant_spec (wt : Memref sig .tc .vmem S2048x2x256 .bf16) (hwt : wt.IsWhole) (b : Fin 43) (o4 : Fin 2 → Nat) (h4 : ∀ a, o4 a + S256x64.size a ≤ S11008x64.size a) (e4 : o4 = ![256 * b.val, 0])
    (o5 : Fin 2 → Nat) (h5 : ∀ a, o5 a + S1x256.size a ≤ S1x11008.size a) (e5 : o5 = ![0, 256 * b.val])
    (w : Fin 16 → Fin 2 → Nat) (hw : ∀ kt a, w kt a + S256x128.size a ≤ S11008x2048.size a) (ew : ∀ kt, w kt = ![256 * b.val, 128 * kt.val]) (Q : PUnit → sProp 𝕄) :
    iprop(Quant c arg4 arg5 arg6 arg11 W X4 X5 X6 b ∗ ownsSat (c : Thread nD τ) arg14 fullShare (fun _ => True) ∗ ownsSat (c : Thread nD τ) wt fullShare (fun _ => True))
      ⊢ iprop((iprop(Quant c arg4 arg5 arg6 arg11 W X4 X5 X6 b ∗ ownsSat (c : Thread nD τ) arg14 fullShare (fun _ => True)
          ∗ owns (c : Thread nD τ) wt fullShare (wtOf table plane W (scaleOf X4 X5 X6 b) b)) -∗ Q ⟨⟩)
        -∗ WP c (dequant arg4 arg5 arg6 arg11 arg14 harg14 wt hwt table plane o4 h4 o5 h5 w hw) Q) := by
  unfold WP dequant
  rw [wp_bind]
  iintro ⟨⟨H4, H5, H6, Hw⟩, Hs, Ht⟩ HK
  iapply (putScales_spec c arg4 arg5 arg6 arg14 harg14 X4 X5 X6 b o4 h4 e4 o5 h5 e5 _) $$ [H4 H5 H6 Hs]
  · isplitl [H4]; · iexact H4
    isplitl [H5]; · iexact H5
    isplitl [H6]; · iexact H6
    iexact Hs
  iintro ⟨H4, H5, H6, Hs⟩
  have hseq := seq_spec c 16 0 (fun n => iprop(slab c arg11 W b ∗ owns (c : Thread nD τ) arg14 fullShare (scaleOf X4 X5 X6 b)
      ∗ ownsSat (c : Thread nD τ) wt fullShare (Upto (4 * n) (wtOf table plane W (scaleOf X4 X5 X6 b) b))))
    (fun kt => tile arg11 arg14 wt hwt table plane (w kt) (hw kt) kt)
    (fun kt Q => by rw [Nat.zero_add]; exact tile_spec c arg11 arg14 W table plane wt hwt (scaleOf X4 X5 X6 b) b kt (w kt) (hw kt) (ew kt) Q) Q
  iapply hseq $$ [Hw Hs Ht]
  · isplitl [Hw]; · iexact Hw
    isplitl [Hs]; · iexact Hs
    iapply (ownsSat_mono (c : Thread nD τ) wt fullShare (fun X _ i hi => absurd hi (Nat.not_lt_zero _)))
    iexact Ht
  iintro ⟨Hw, Hs, Ht⟩
  iapply HK
  isplitl [H4 H5 H6 Hw]
  · isplitl [H4]; · iexact H4
    isplitl [H5]; · iexact H5
    isplitl [H6]; · iexact H6
    iexact Hw
  isplitl [Hs]
  · iapply (ownsSat_intro (c : Thread nD τ) arg14 fullShare trivial); iexact Hs
  iapply (show (ownsSat (c : Thread nD τ) wt fullShare (Upto (4 * (0 + 16)) (wtOf table plane W (scaleOf X4 X5 X6 b) b)) : sProp 𝕄) ⊢ owns (c : Thread nD τ) wt fullShare (wtOf table plane W (scaleOf X4 X5 X6 b) b) by
    rw [owns_eq_ownsSat]
    exact ownsSat_mono (c : Thread nD τ) wt fullShare fun X hX => funext fun i => hX i (show (i 0).val < 2048 from (i 0).isLt))
  iexact Ht

/-- What a block's product reads and leaves as it was. -/
abbrev Factors : sProp 𝕄 :=
  iprop(owns (c : Thread nD τ) arg1 fullShare X1 ∗ owns (c : Thread nD τ) arg8 fullShare X8 ∗ owns (c : Thread nD τ) arg9 fullShare X9)

/-- A block's columns of the result are stored. -/
theorem multiply_spec (wt : Memref sig .tc .vmem S2048x2x256 .bf16) (wts : Fin 43 → FVec F S2048x2x256 .bf16) (b : Fin 43)
    (o8 : Fin 2 → Nat) (h8 : ∀ a, o8 a + S256x64.size a ≤ S11008x64.size a) (e8 : o8 = ![256 * b.val, 0])
    (o9 : Fin 2 → Nat) (h9 : ∀ a, o9 a + S1x256.size a ≤ S1x11008.size a) (e9 : o9 = ![0, 256 * b.val])
    (o10 : Fin 2 → Nat) (h10 : ∀ a, o10 a + S128x256.size a ≤ S128x11008.size a)
    (p10 : (Rect.unit (s := S128x11008) o10 S128x256.size h10).PackedRows (EltTy.packing .bf16)) (e10 : o10 = ![0, 256 * b.val]) (Q : PUnit → sProp 𝕄) :
    iprop(Factors c arg1 arg8 arg9 X1 X8 X9 ∗ owns (c : Thread nD τ) wt fullShare (wts b) ∗ ownsSat (c : Thread nD τ) arg10 fullShare (Columns b.val (outOf h wts X1 X8 X9)))
      ⊢ iprop((iprop(Factors c arg1 arg8 arg9 X1 X8 X9 ∗ ownsSat (c : Thread nD τ) wt fullShare (fun _ => True) ∗ ownsSat (c : Thread nD τ) arg10 fullShare (Columns (b.val + 1) (outOf h wts X1 X8 X9))) -∗ Q ⟨⟩)
        -∗ WP c (multiply arg1 arg8 arg9 arg10 harg10 wt h o8 h8 o9 h9 o10 h10 p10) Q) := by
  subst e8 e9 e10
  unfold WP multiply multiplyRest
  iintro ⟨⟨H1, H8, H9⟩, Ht, Ho⟩ HK
  rw [Prog.bind_lift]
  iapply (own_load Variants.none (c : Thread nD τ) none) $$ Ht
  iintro Ht
  rw [Prog.bind_lift]
  iapply (own_load Variants.none (c : Thread nD τ) none) $$ H1
  iintro H1
  rw [Prog.bind_lift]
  iapply (own_load Variants.none (c : Thread nD τ) none) $$ H8
  iintro H8
  rw [Prog.bind_lift]
  iapply (own_load Variants.none (c : Thread nD τ) none) $$ H9
  iintro H9
  rw [Prog.bind_lift]
  iapply (own_load_sat Variants.none (c : Thread nD τ) none) $$ Ho
  iintro %X Ho %hX
  iapply (own_store Variants.none (c : Thread nD τ) none (Φ := Columns b.val (outOf h wts X1 X8 X9)) (Ψ := Columns (b.val + 1) (outOf h wts X1 X8 X9))
    (fun X Y hX hY hr => columns_succ h wts X1 X8 X9 b X Y hX hY hr)) $$ [Ho]
  · iapply (ownsSat_intro (c : Thread nD τ) arg10 fullShare hX); iexact Ho
  iintro Ho
  iapply (WP_done c Q)
  iapply HK
  isplitl [H1 H8 H9]
  · isplitl [H1]; · iexact H1
    isplitl [H8]; · iexact H8
    iexact H9
  isplitl [Ht]
  · iapply (ownsSat_intro (c : Thread nD τ) wt fullShare trivial); iexact Ht
  iexact Ho

/-! ## The copies -/

/-- The transfers' counters inside the proof's algebra. -/
abbrev EC : UEmb Counters 𝕄 := countersEmb (U := Pipeline.UD sig nD τ)

/-- Block `i`'s cell. -/
abbrev cell (i : Fin 43) : DmaSem sig := ((arg15.slice (Rect.unit (s := S43) ![i.val] S1.size (inb15 i))).squeeze S_ squeezes_S1_S_).sem

/-- Block `i` before its copy is issued. -/
abbrev Before (i : Fin 43) : sProp 𝕄 :=
  iprop(source c arg2 W i
    ∗ (∃ Y, owns (c : Thread nD τ) (arg11.slice (Rect.unit (s := S11008x2048) ![256 * i.val, 0] S256x2048.size (inb2 i)) (fun _ => rfl)) fullShare Y)
    ∗ semVal ((c : Thread nD τ), SemLoc.dma (cell arg15 i)) 0)

/-- Block `i`'s copy in flight. -/
abbrev Flying (i : Fin 43) : sProp 𝕄 :=
  Flight (EC (F := F)) (c : Thread nD τ) (SemLoc.dma (cell arg15 i)) ()
    (arg11.slice (Rect.unit (s := S11008x2048) ![256 * i.val, 0] S256x2048.size (inb2 i)) (fun _ => rfl)).view.dmaCredit
    iprop(slab c arg11 W i ∗ source c arg2 W i)

/-- Block `i` arrived. -/
abbrev Arrived (i : Fin 43) : sProp 𝕄 :=
  iprop(slab c arg11 W i ∗ source c arg2 W i ∗ semVal ((c : Thread nD τ), SemLoc.dma (cell arg15 i)) 0)

/-- What the core owes, whatever its waits. -/
abbrev Owes : sProp 𝕄 := iprop(∃ W', owes (c : Thread nD τ) 0 W')

/-- Block `i`'s copy is issued. -/
theorem fetch_spec (i : Fin 43) (Q : PUnit → sProp 𝕄) :
    step (Before c arg2 arg11 arg15 W) (Flying c arg2 arg11 arg15 W) i.val
      ⊢ iprop((step (Before c arg2 arg11 arg15 W) (Flying c arg2 arg11 arg15 W) (i.val + 1) -∗ Q ⟨⟩)
        -∗ WP c (fetch arg2 harg2 arg11 harg11 arg15 i) Q) := by
  refine (step_next _ _ i).trans ?_
  unfold WP fetch Prog.lift
  iintro ⟨⟨Hs, Hd, Hv⟩, Hrest⟩ HK
  iapply (own_copy Variants.none (c : Thread nD τ) none (EC (F := F)) ()
    (arg11.slice (Rect.unit (s := S11008x2048) ![256 * i.val, 0] S256x2048.size (inb2 i)) (fun _ => rfl)).view.dmaCredit rfl
    (View.dmaCredit_pos _ (show 0 < S256x2048.numel by decide))) $$ [Hs Hd Hv]
  · isplitl [Hs]; · iexact Hs
    isplitl [Hd]; · iexact Hd
    iexact Hv
  iintro Hf
  iapply (WP_done c Q)
  iapply HK
  iapply Hrest $$ Hf

/-- Block `i`'s copy is waited for. -/
theorem await_spec (i : Fin 43) (o1 : Fin 1 → Nat) (h1 : ∀ a, o1 a + S1.size a ≤ S43.size a) (e1 : o1 = ![i.val])
    (o2 : Fin 2 → Nat) (h2 : ∀ a, o2 a + S256x2048.size a ≤ S11008x2048.size a)
    (w2 : (Rect.unit (s := S11008x2048) o2 S256x2048.size h2).WholeWords (EltTy.packing .i8)) (e2 : o2 = ![256 * i.val, 0]) (Q : PUnit → sProp 𝕄) :
    iprop(step (Flying c arg2 arg11 arg15 W) (Arrived c arg2 arg11 arg15 W) i.val ∗ Owes (F := F) c)
      ⊢ iprop((iprop(step (Flying c arg2 arg11 arg15 W) (Arrived c arg2 arg11 arg15 W) (i.val + 1) ∗ Owes (F := F) c) -∗ Q ⟨⟩)
        -∗ WP c (await arg2 harg2 arg11 harg11 arg15 o1 h1 o2 h2 w2) Q) := by
  subst e1 e2
  unfold WP await Prog.lift
  iintro ⟨Hst, ⟨%W', HO⟩⟩ HK
  ihave Hst := (step_next (Flying c arg2 arg11 arg15 W) (Arrived c arg2 arg11 arg15 W) i) $$ Hst
  icases Hst with ⟨Hf, Hrest⟩
  iapply (wp_waitLocal (EC (F := F)) Variants.none (c : Thread nD τ) none () rfl) $$ [Hf HO]
  · isplitl [Hf]; · iexact Hf
    iexact HO
  iintro ⟨⟨Hd, Hs⟩, Hv, HO⟩
  iapply (WP_done c Q)
  iapply HK
  isplitl [Hd Hs Hv Hrest]
  · iapply Hrest
    isplitl [Hd]; · iexact Hd
    isplitl [Hs]; · iexact Hs
    iexact Hv
  iexists _
  iexact HO

/-- A block that has arrived becomes numbers. -/
theorem dequant_spec' (wt : Memref sig .tc .vmem S2048x2x256 .bf16) (hwt : wt.IsWhole) (b : Fin 43) (n : Nat) (hb : b.val < n) (o4 : Fin 2 → Nat) (h4 : ∀ a, o4 a + S256x64.size a ≤ S11008x64.size a) (e4 : o4 = ![256 * b.val, 0])
    (o5 : Fin 2 → Nat) (h5 : ∀ a, o5 a + S1x256.size a ≤ S1x11008.size a) (e5 : o5 = ![0, 256 * b.val])
    (w : Fin 16 → Fin 2 → Nat) (hw : ∀ kt a, w kt a + S256x128.size a ≤ S11008x2048.size a) (ew : ∀ kt, w kt = ![256 * b.val, 128 * kt.val]) (Q : PUnit → sProp 𝕄) :
    iprop(owns (c : Thread nD τ) arg4 fullShare X4 ∗ owns (c : Thread nD τ) arg5 fullShare X5 ∗ owns (c : Thread nD τ) arg6 fullShare X6
        ∗ step (Flying c arg2 arg11 arg15 W) (Arrived c arg2 arg11 arg15 W) n
        ∗ ownsSat (c : Thread nD τ) arg14 fullShare (fun _ => True) ∗ ownsSat (c : Thread nD τ) wt fullShare (fun _ => True))
      ⊢ iprop((iprop(owns (c : Thread nD τ) arg4 fullShare X4 ∗ owns (c : Thread nD τ) arg5 fullShare X5 ∗ owns (c : Thread nD τ) arg6 fullShare X6
          ∗ step (Flying c arg2 arg11 arg15 W) (Arrived c arg2 arg11 arg15 W) n
          ∗ ownsSat (c : Thread nD τ) arg14 fullShare (fun _ => True)
          ∗ owns (c : Thread nD τ) wt fullShare (wtOf table plane W (scaleOf X4 X5 X6 b) b)) -∗ Q ⟨⟩)
        -∗ WP c (dequant arg4 arg5 arg6 arg11 arg14 harg14 wt hwt table plane o4 h4 o5 h5 w hw) Q) := by
  iintro ⟨H4, H5, H6, Hst, Hs, Ht⟩ HK
  ihave Hst := (step_peek (Flying c arg2 arg11 arg15 W) (Arrived c arg2 arg11 arg15 W) n b hb) $$ Hst
  icases Hst with ⟨⟨Hd, Hsrc, Hv⟩, Hrest⟩
  iapply (dequant_spec c arg4 arg5 arg6 arg11 arg14 harg14 W X4 X5 X6 table plane wt hwt b o4 h4 e4 o5 h5 e5 w hw ew Q) $$ [H4 H5 H6 Hd Hs Ht]
  · isplitl [H4 H5 H6 Hd]
    · isplitl [H4]; · iexact H4
      isplitl [H5]; · iexact H5
      isplitl [H6]; · iexact H6
      iexact Hd
    isplitl [Hs]; · iexact Hs
    iexact Ht
  iintro ⟨⟨H4, H5, H6, Hd⟩, Hs, Ht⟩
  iapply HK
  isplitl [H4]; · iexact H4
  isplitl [H5]; · iexact H5
  isplitl [H6]; · iexact H6
  isplitl [Hd Hsrc Hv Hrest]
  · iapply Hrest
    isplitl [Hd]; · iexact Hd
    isplitl [Hsrc]; · iexact Hsrc
    iexact Hv
  isplitl [Hs]; · iexact Hs
  iexact Ht

/-! ## The loop -/

/-- A loop that carries nothing: its trips in order keep `I`. -/
theorem loop_spec (l : Scf.Loop 32) (hok : l.OK) (n : Nat) (hn : l.trips = n) (f : Fin l.trips → PUnit → Prog (TpuEff nD τ sig (Elt F) Λ₀ .tc) PUnit) (I : Nat → sProp 𝕄)
    (hf : ∀ t, I t.val ⊢ WP c (f t ⟨⟩) (fun _ => I (t.val + 1))) (Q : PUnit → sProp 𝕄) :
    I 0 ⊢ iprop((I n -∗ Q ⟨⟩) -∗ WP c (Scf.Loop.for l hok ⟨⟩ f) Q) := by
  rw [← hn]
  unfold WP
  iintro HI HK
  iapply (Scf.wp_for frame (wpE (defs₀ (F := F)) Variants.none (c : Thread nD τ) none) Set.univ l.lb l.ub l.st hok ⟨⟩ f (fun t _ => I t)
    (fun t _ => hf t))
  isplitl [HI]; · iexact HI
  iintro %acc HI
  iapply HK
  iexact HI

omit [Facts] in
theorem trip_lt (t : Fin k0_t1_loop.trips) : t.val < 21 := lt_of_lt_of_eq t.isLt (by decide +kernel)

omit [Facts] in
/-- The loop makes 21 trips. -/
theorem trips_eq : k0_t1_loop.trips = 21 := by decide +kernel

omit [Facts] in
/-- The offsets of a trip, as multiples of the block. -/
theorem offs (t : Fin k0_t1_loop.trips) :
    (k0_off1 t 1#32 = ![2 * t.val + 1] ∧ k0_off1 t 2#32 = ![2 * t.val + 2])
    ∧ (k0_off2 t 1#32 = ![256 * (2 * t.val + 1), 0] ∧ k0_off2 t 2#32 = ![256 * (2 * t.val + 2), 0])
    ∧ (k0_off3 t = ![256 * (2 * t.val), 0] ∧ k0_off4 t = ![0, 256 * (2 * t.val)] ∧ k0_off5 t = ![0, 256 * (2 * t.val)])
    ∧ (k0_off6 t 1#32 = ![256 * (2 * t.val + 1), 0] ∧ k0_off6 t 2#32 = ![256 * (2 * t.val + 2), 0])
    ∧ (k0_off7 t 1#32 = ![0, 256 * (2 * t.val + 1)] ∧ k0_off7 t 2#32 = ![0, 256 * (2 * t.val + 2)])
    ∧ k0_off24 t = ![0, 256 * (2 * t.val + 1)] := by
  revert t; decide +kernel

omit [Facts] in
/-- The offsets of a trip's tiles. -/
theorem tileOffs (t : Fin k0_t1_loop.trips) (kt : Fin 16) :
    tileOff t 1#32 kt = ![256 * (2 * t.val + 1), 128 * kt.val] ∧ tileOff t 2#32 kt = ![256 * (2 * t.val + 2), 128 * kt.val] := by
  revert t kt; decide +kernel

/-- The blocks' weights. -/
abbrev wts (b : Fin 43) : FVec F S2048x2x256 .bf16 := wtOf table plane W (scaleOf X4 X5 X6 b) b

/-- What holds before trip `t`: blocks up to `2 t` have arrived, block `2 t` is in `wt_a`, the result has the first `2 t` blocks. -/
def Inv (t : Nat) : sProp 𝕄 :=
  iprop(Factors c arg1 arg8 arg9 X1 X8 X9
    ∗ owns (c : Thread nD τ) arg4 fullShare X4 ∗ owns (c : Thread nD τ) arg5 fullShare X5 ∗ owns (c : Thread nD τ) arg6 fullShare X6
    ∗ step (Flying c arg2 arg11 arg15 W) (Arrived c arg2 arg11 arg15 W) (2 * t + 1)
    ∗ Owes (F := F) c
    ∗ (∃ hb : 2 * t < 43, owns (c : Thread nD τ) arg12 fullShare (wts W X4 X5 X6 table plane ⟨2 * t, hb⟩))
    ∗ ownsSat (c : Thread nD τ) arg13 fullShare (fun _ => True)
    ∗ ownsSat (c : Thread nD τ) arg14 fullShare (fun _ => True)
    ∗ ownsSat (c : Thread nD τ) arg10 fullShare (Columns (2 * t) (outOf h (wts W X4 X5 X6 table plane) X1 X8 X9)))

/-- A trip keeps the invariant. -/
theorem trip_spec (t : Fin k0_t1_loop.trips) :
    Inv c arg1 arg2 arg4 arg5 arg6 arg8 arg9 arg10 arg11 arg12 arg13 arg14 arg15 X1 W X4 X5 X6 X8 X9 table plane h t.val
      ⊢ WP c (trip arg1 arg2 harg2 arg4 arg5 arg6 arg8 arg9 arg10 harg10 arg11 harg11 arg12 harg12 arg13 harg13 arg14 harg14 arg15 h table plane t)
        (fun _ => Inv c arg1 arg2 arg4 arg5 arg6 arg8 arg9 arg10 arg11 arg12 arg13 arg14 arg15 X1 W X4 X5 X6 X8 X9 table plane h (t.val + 1)) := by
  have ht := trip_lt t
  obtain ⟨⟨e11, e12⟩, ⟨e21, e22⟩, ⟨e3, e4, e5⟩, ⟨e61, e62⟩, ⟨e71, e72⟩, e24⟩ := offs t
  unfold Inv WP trip
  rw [show 2 * (t.val + 1) = 2 * t.val + 2 by omega]
  iintro ⟨HF, H4, H5, H6, Hst, HO, ⟨%hb, Ha⟩, Hb, Hs, Ho⟩
  rw [wp_bind]
  iapply (await_spec c arg2 harg2 arg11 harg11 arg15 W ⟨2 * t.val + 1, by omega⟩ _ _ e11 _ _ _ e21 _) $$ [Hst HO]
  · isplitl [Hst]; · iexact Hst
    iexact HO
  iintro ⟨Hst, HO⟩
  rw [wp_bind]
  iapply (await_spec c arg2 harg2 arg11 harg11 arg15 W ⟨2 * t.val + 2, by omega⟩ _ _ e12 _ _ _ e22 _) $$ [Hst HO]
  · isplitl [Hst]; · iexact Hst
    iexact HO
  iintro ⟨Hst, HO⟩
  rw [wp_bind]
  iapply (multiply_spec c arg1 arg8 arg9 arg10 harg10 X1 X8 X9 h arg12 (wts W X4 X5 X6 table plane) ⟨2 * t.val, hb⟩ _ _ e3 _ _ e4 _ _ _ e5 _) $$ [HF Ha Ho]
  · isplitl [HF]; · iexact HF
    isplitl [Ha]; · iexact Ha
    iexact Ho
  iintro ⟨HF, Ha, Ho⟩
  rw [wp_bind]
  iapply (dequant_spec' c arg2 arg4 arg5 arg6 arg11 arg14 harg14 arg15 W X4 X5 X6 table plane arg13 harg13 ⟨2 * t.val + 1, by omega⟩ (2 * t.val + 2 + 1) (by show 2 * t.val + 1 < _; omega) _ _ e61 _ _ e71 _ _ (fun kt => (tileOffs t kt).1) _) $$ [H4 H5 H6 Hst Hs Hb]
  · isplitl [H4]; · iexact H4
    isplitl [H5]; · iexact H5
    isplitl [H6]; · iexact H6
    isplitl [Hst]; · iexact Hst
    isplitl [Hs]; · iexact Hs
    iexact Hb
  iintro ⟨H4, H5, H6, Hst, Hs, Hb⟩
  rw [wp_bind]
  iapply (multiply_spec c arg1 arg8 arg9 arg10 harg10 X1 X8 X9 h arg13 (wts W X4 X5 X6 table plane) ⟨2 * t.val + 1, by omega⟩ _ _ e61 _ _ e71 _ _ _ e24 _) $$ [HF Hb Ho]
  · isplitl [HF]; · iexact HF
    isplitl [Hb]; · iexact Hb
    iexact Ho
  iintro ⟨HF, Hb, Ho⟩
  iapply (dequant_spec' c arg2 arg4 arg5 arg6 arg11 arg14 harg14 arg15 W X4 X5 X6 table plane arg12 harg12 ⟨2 * t.val + 2, by omega⟩ (2 * t.val + 2 + 1) (Nat.lt_succ_self _) _ _ e62 _ _ e72 _ _ (fun kt => (tileOffs t kt).2) _) $$ [H4 H5 H6 Hst Hs Ha]
  · isplitl [H4]; · iexact H4
    isplitl [H5]; · iexact H5
    isplitl [H6]; · iexact H6
    isplitl [Hst]; · iexact Hst
    isplitl [Hs]; · iexact Hs
    iexact Ha
  iintro ⟨H4, H5, H6, Hst, Hs, Ha⟩
  isplitl [HF]; · iexact HF
  isplitl [H4]; · iexact H4
  isplitl [H5]; · iexact H5
  isplitl [H6]; · iexact H6
  isplitl [Hst]; · iexact Hst
  isplitl [HO]; · iexact HO
  isplitl [Ha]
  · iexists (show 2 * t.val + 2 < 43 by omega)
    iexact Ha
  isplitl [Hb]; · iexact Hb
  isplitl [Hs]; · iexact Hs
  iexact Ho

/-! ## The body -/

/-- The adapter's inner product, from the operands. -/
abbrev innerOf : FVec F S128x64 .bf16 :=
  inner (fun j => X0 ((Rect.unit (s := S128x4096) ![0, 0] S128x4096.size inb_S128x4096_S128x4096_0_0).emb j))
    (fun j => X7 ((Rect.unit (s := S64x4096) ![0, 0] S64x4096.size inb_S64x4096_S64x4096_0_0).emb j))

/-- The lane table, from the operand. -/
abbrev tableOf : IVec S128x128 32 := laneTable fun j => X3 ((Rect.unit (s := S16x256) ![0, 0] S16x256.size inb_S16x256_S16x256_0_0).emb j)

/-- The result, from the operands. -/
abbrev resultOf : FVec F S128x11008 .bf16 :=
  outOf (innerOf X0 X7) (wts W X4 X5 X6 (tableOf X3) planes) X1 X8 X9

/-- The body: its operands are as they were, its copies are done, and the result is `resultOf`. -/
theorem body_spec (Q : PUnit → sProp 𝕄) :
    iprop((owns (c : Thread nD τ) arg0 fullShare X0 ∗ owns (c : Thread nD τ) arg3 fullShare X3 ∗ owns (c : Thread nD τ) arg7 fullShare X7
        ∗ Factors c arg1 arg8 arg9 X1 X8 X9
        ∗ owns (c : Thread nD τ) arg4 fullShare X4 ∗ owns (c : Thread nD τ) arg5 fullShare X5 ∗ owns (c : Thread nD τ) arg6 fullShare X6
        ∗ bigSep Finset.univ (Before c arg2 arg11 arg15 W)
        ∗ Owes (F := F) c
        ∗ ownsSat (c : Thread nD τ) arg12 fullShare (fun _ => True)
        ∗ ownsSat (c : Thread nD τ) arg13 fullShare (fun _ => True)
        ∗ ownsSat (c : Thread nD τ) arg14 fullShare (fun _ => True)
        ∗ ownsSat (c : Thread nD τ) arg10 fullShare (fun _ => True)))
      ⊢ iprop(((owns (c : Thread nD τ) arg0 fullShare X0 ∗ owns (c : Thread nD τ) arg3 fullShare X3 ∗ owns (c : Thread nD τ) arg7 fullShare X7
        ∗ Factors c arg1 arg8 arg9 X1 X8 X9
        ∗ owns (c : Thread nD τ) arg4 fullShare X4 ∗ owns (c : Thread nD τ) arg5 fullShare X5 ∗ owns (c : Thread nD τ) arg6 fullShare X6
        ∗ bigSep Finset.univ (Arrived c arg2 arg11 arg15 W)
        ∗ Owes (F := F) c
        ∗ ownsSat (c : Thread nD τ) arg12 fullShare (fun _ => True)
        ∗ ownsSat (c : Thread nD τ) arg13 fullShare (fun _ => True)
        ∗ ownsSat (c : Thread nD τ) arg14 fullShare (fun _ => True)
        ∗ owns (c : Thread nD τ) arg10 fullShare (resultOf X0 X1 W X3 X4 X5 X6 X7 X8 X9)) -∗ Q ⟨⟩)
        -∗ WP c (body arg0 arg1 arg2 harg2 arg3 arg4 arg5 arg6 arg7 arg8 arg9 arg10 harg10 arg11 harg11 arg12 harg12 arg13 harg13 arg14 harg14 arg15) Q) := by
  unfold WP body
  rw [← step_zero (Before c arg2 arg11 arg15 W) (Flying c arg2 arg11 arg15 W),
    ← step_all (Flying c arg2 arg11 arg15 W) (Arrived c arg2 arg11 arg15 W)]
  have hmid : step (Before (F := F) c arg2 arg11 arg15 W) (Flying c arg2 arg11 arg15 W) 43 = step (Flying c arg2 arg11 arg15 W) (Arrived c arg2 arg11 arg15 W) 0 :=
    (step_all _ _).trans (step_zero _ _).symm
  have hres : ownsSat (c : Thread nD τ) arg10 fullShare (Columns (42 + 1) (resultOf X0 X1 W X3 X4 X5 X6 X7 X8 X9))
      ⊢ (owns (c : Thread nD τ) arg10 fullShare (resultOf X0 X1 W X3 X4 X5 X6 X7 X8 X9) : sProp 𝕄) := by
    rw [owns_eq_ownsSat]
    exact ownsSat_mono (c : Thread nD τ) arg10 fullShare fun X hX => funext fun i => hX i (show (i 1).val < 256 * 43 from (i 1).isLt)
  have hseq := seq_spec c 43 0 (fun n => step (Before (F := F) c arg2 arg11 arg15 W) (Flying c arg2 arg11 arg15 W) n) (fetch arg2 harg2 arg11 harg11 arg15)
    (fun i Q => by rw [Nat.zero_add]; exact fetch_spec c arg2 harg2 arg11 harg11 arg15 W i Q)
  rw [Nat.zero_add, hmid] at hseq
  rw [wp_bind]
  iintro ⟨H0, H3, H7, HF, H4, H5, H6, Hst, HO, Ha, Hb, Hs, Ho⟩ HK
  iapply (hseq _) $$ Hst
  iintro Hst
  rw [Prog.bind_lift]
  iapply (own_load Variants.none (c : Thread nD τ) none) $$ H0
  iintro H0
  rw [Prog.bind_lift]
  iapply (own_load Variants.none (c : Thread nD τ) none) $$ H7
  iintro H7
  rw [Prog.bind_lift]
  iapply (own_load Variants.none (c : Thread nD τ) none) $$ H3
  iintro H3
  rw [wp_bind]
  iapply (await_spec c arg2 harg2 arg11 harg11 arg15 W ⟨0, by decide⟩ _ _ rfl _ _ _ rfl _) $$ [Hst HO]
  · isplitl [Hst]; · iexact Hst
    iexact HO
  iintro ⟨Hst, HO⟩
  rw [wp_bind]
  iapply (dequant_spec' c arg2 arg4 arg5 arg6 arg11 arg14 harg14 arg15 W X4 X5 X6 (tableOf X3) planes arg12 harg12 ⟨0, by decide⟩ (0 + 1) Nat.one_pos _ _ rfl _ _ rfl _ _ (fun kt => rfl) _) $$ [H4 H5 H6 Hst Hs Ha]
  · isplitl [H4]; · iexact H4
    isplitl [H5]; · iexact H5
    isplitl [H6]; · iexact H6
    isplitl [Hst]; · iexact Hst
    isplitl [Hs]; · iexact Hs
    iexact Ha
  iintro ⟨H4, H5, H6, Hst, Hs, Ha⟩
  rw [wp_bind]
  have hloop := loop_spec c k0_t1_loop k0_t1_ok 21 trips_eq
    (fun k0_t1 _ => trip arg1 arg2 harg2 arg4 arg5 arg6 arg8 arg9 arg10 harg10 arg11 harg11 arg12 harg12 arg13 harg13 arg14 harg14 arg15 (innerOf X0 X7) (tableOf X3) planes k0_t1)
    (Inv c arg1 arg2 arg4 arg5 arg6 arg8 arg9 arg10 arg11 arg12 arg13 arg14 arg15 X1 W X4 X5 X6 X8 X9 (tableOf X3) planes (innerOf X0 X7))
    (fun t => trip_spec c arg1 arg2 harg2 arg4 arg5 arg6 arg8 arg9 arg10 harg10 arg11 harg11 arg12 harg12 arg13 harg13 arg14 harg14 arg15 X1 W X4 X5 X6 X8 X9 (tableOf X3) planes (innerOf X0 X7) t)
  iapply (hloop _) $$ [HF H4 H5 H6 Hst HO Ha Hb Hs Ho]
  · unfold Inv
    isplitl [HF]; · iexact HF
    isplitl [H4]; · iexact H4
    isplitl [H5]; · iexact H5
    isplitl [H6]; · iexact H6
    isplitl [Hst]; · iexact Hst
    isplitl [HO]; · iexact HO
    isplitl [Ha]
    · iexists (show 2 * 0 < 43 by decide)
      iexact Ha
    isplitl [Hb]; · iexact Hb
    isplitl [Hs]; · iexact Hs
    iapply (ownsSat_mono (c : Thread nD τ) arg10 fullShare (fun X _ i hi => absurd hi (Nat.not_lt_zero _)))
    iexact Ho
  unfold Inv
  iintro ⟨HF, H4, H5, H6, Hst, HO, ⟨%hb, Ha⟩, Hb, Hs, Ho⟩
  iapply (multiply_spec c arg1 arg8 arg9 arg10 harg10 X1 X8 X9 (innerOf X0 X7) arg12 (wts W X4 X5 X6 (tableOf X3) planes) ⟨42, by decide⟩ _ _ rfl _ _ rfl _ _ _ rfl _) $$ [HF Ha Ho]
  · isplitl [HF]; · iexact HF
    isplitl [Ha]; · iexact Ha
    iexact Ho
  iintro ⟨HF, Ha, Ho⟩
  iapply HK
  isplitl [H0]; · iexact H0
  isplitl [H3]; · iexact H3
  isplitl [H7]; · iexact H7
  isplitl [HF]; · iexact HF
  isplitl [H4]; · iexact H4
  isplitl [H5]; · iexact H5
  isplitl [H6]; · iexact H6
  isplitl [Hst]
  · iexact Hst
  isplitl [HO]; · iexact HO
  isplitl [Ha]; · iexact Ha
  isplitl [Hb]; · iexact Hb
  isplitl [Hs]; · iexact Hs
  iapply hres
  iexact Ho

end Steps

end Cert.KernelIdeal.Run

end
-- ==== Proof.IdealFrame.lean ====
/- The pipeline around the body: the region owns what the body needs, the body's result is the window's block, the run ends
   with every argument as it was, every semaphore at zero and the result array at `result`. -/
module

public import proofs.«01_k».proof.Proof.Gen.KernelIdeal.Frame
public import proofs.«01_k».proof.Proof.Gen.KernelIdeal.Points
public import proofs.«01_k».proof.Proof.IdealRun
public import Idealize.ShloMosaic.Lib.Pipeline.FrameBody
public import Idealize.ShloMosaic.Lib.Pipeline.ValueKit.Geometry
public import Idealize.ShloMosaic.Lib.Ring

@[expose] public section

set_option maxRecDepth 16384

noncomputable section

namespace Cert.KernelIdeal.Hand

open Cert.KernelIdeal Cert.KernelIdeal.Gen Cert.KernelIdeal.Shape Cert.KernelIdeal.Run Cert.Rules
open Facts₀ Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the region lends the body -/

/-- The body's 43 cells. -/
abbrev osem0 : Fin 43 → SemLoc sig := fun i => SemLoc.dma (cell cc0_scratch4 i)
theorem ownSemFacts0 : Pipeline.OwnSemFacts spec0 osem0 := by decide +kernel

/-- The codes stay in HBM. -/
def H0 : Finset (Ref sig .tc) := {main_arg1}
theorem H0_sub : H0 ⊆ Pipeline.restRefs sig spec0 := by decide

/-- The 43 blocks of rows. -/
abbrev rows (i : Fin 43) : Rect S11008x2048 := Rect.unit (s := S11008x2048) ![256 * i.val, 0] S256x2048.size (inb2 i)

theorem rows_disjoint (i j : Fin 43) (h : i ≠ j) : Disjoint (rows i).set (rows j).set :=
  Ring.lead_disjoint (s := S11008x2048) 0 256 (fun i : Fin 43 => ![256 * i.val, 0]) S256x2048.size inb2 (fun _ => rfl) rfl i j h

theorem rows_cover : Finset.univ.biUnion (fun i : Fin 43 => (rows i).set) = Finset.univ :=
  Ring.lead_cover (s := S11008x2048) 0 256 (fun i : Fin 43 => ![256 * i.val, 0]) S256x2048.size inb2 (fun _ => rfl)
    (fun b a ha => by revert a; intro a ha; match a, ha with | ⟨0, _⟩, ha => exact absurd rfl ha | ⟨1, _⟩, _ => rfl) rfl
    (fun a ha => by match a, ha with | ⟨0, _⟩, ha => exact absurd rfl ha | ⟨1, _⟩, _ => rfl) rfl

/-- A family of threes is three families. -/
theorem threes (A B C : Fin 43 → sProp 𝕄) :
    bigSep Finset.univ (fun i => iprop(A i ∗ B i ∗ C i)) = iprop(bigSep Finset.univ A ∗ bigSep Finset.univ B ∗ bigSep Finset.univ C) :=
  (BI.bigSep_sep Finset.univ A fun i => iprop(B i ∗ C i)).trans (congrArg (BI.sep (bigSep Finset.univ A)) (BI.bigSep_sep Finset.univ B C))

/-- A block of the copy's buffer, at whatever it holds. -/
theorem some_rows (c : Dev nD) (X : Vec F S256x2048 .i8) (i : Fin 43) :
    (owns (c : Thread nD τ) ((Memref.whole cc0_scratch0).slice (rows i) (fun _ => rfl)) fullShare X : sProp 𝕄)
      ⊢ iprop(∃ Y, owns (c : Thread nD τ) ((Memref.whole cc0_scratch0).slice (rows i) (fun _ => rfl)) fullShare Y) := by
  iintro H
  iexists X
  iexact H

/-- The array in HBM, the buffer it is copied to and the cells, as the body takes them: block by block. -/
theorem blocks_split (c : Dev nD) (W : IVec S11008x2048 8) :
    iprop((((c : Thread nD τ).loc main_arg1) ↦{fullShare} W)
        ∗ (∃ f : Buf (Elt F) ((c : Thread nD τ).loc cc0_scratch0), ((c : Thread nD τ).loc cc0_scratch0) ↦{fullShare} f)
        ∗ Pipeline.ownSems0 (Ix := Unit) (Name := ℕ) (U := Pipeline.UD sig nD τ) (Lvl := ℕ) (Val := Elt F) (τ := τ) osem0 c)
      ⊢ (bigSep Finset.univ (Before c (Memref.whole main_arg1) (Memref.whole cc0_scratch0) cc0_scratch4 W) : sProp 𝕄) := by
  refine BIBase.Entails.trans ?_ (Entails.of_eq (threes (fun i => source c (Memref.whole main_arg1) W i)
    (fun i => iprop(∃ Y, owns (c : Thread nD τ) ((Memref.whole cc0_scratch0).slice (rows i) (fun _ => rfl)) fullShare Y))
    (fun i => semVal ((c : Thread nD τ), SemLoc.dma (cell cc0_scratch4 i)) 0)).symm)
  rw [← owns_whole]
  iintro ⟨H1, ⟨%f, H2⟩, H3⟩
  isplitl [H1]
  · iapply (owns_rects (c : Thread nD τ) (Memref.whole main_arg1) fullShare rows (fun _ _ => rfl) rows_disjoint rows_cover W) $$ H1
  isplitl [H2]
  · have h : (((c : Thread nD τ).loc cc0_scratch0) ↦{fullShare} f : sProp 𝕄)
        ⊢ bigSep Finset.univ fun i => iprop(∃ Y, owns (c : Thread nD τ) ((Memref.whole cc0_scratch0).slice (rows i) (fun _ => rfl)) fullShare Y) := by
      rw [← owns_whole]
      exact (owns_rects (c : Thread nD τ) (Memref.whole cc0_scratch0) fullShare rows (fun _ _ => rfl) rows_disjoint rows_cover f).trans
        (BI.bigSep_mono fun i _ => some_rows c _ i)
    iapply h $$ H2
  unfold Pipeline.ownSems0
  iexact H3

/-- Blocks of an array, together. -/
theorem slabs_join (c : Dev nD) {m} (A : Memref sig .tc m S11008x2048 .i8) (W : IVec S11008x2048 8) :
    (bigSep Finset.univ (fun i : Fin 43 => owns (c : Thread nD τ) (A.slice (rows i) (fun _ => rfl)) fullShare (fun j => W ((rows i).emb j))) : sProp 𝕄)
      ⊢ (owns (c : Thread nD τ) A fullShare W : sProp 𝕄) :=
  owns_of_rects (Val := Elt F) (c : Thread nD τ) A fullShare rows (fun _ _ => rfl) rows_disjoint rows_cover W

/-- The blocks that have arrived, together. -/
theorem blocks_join (c : Dev nD) (W : IVec S11008x2048 8) :
    bigSep Finset.univ (Arrived c (Memref.whole main_arg1) (Memref.whole cc0_scratch0) cc0_scratch4 W)
      ⊢ (iprop((((c : Thread nD τ).loc main_arg1) ↦{fullShare} W)
        ∗ (∃ f : Buf (Elt F) ((c : Thread nD τ).loc cc0_scratch0), ((c : Thread nD τ).loc cc0_scratch0) ↦{fullShare} f)
        ∗ Pipeline.ownSems0 (Ix := Unit) (Name := ℕ) (U := Pipeline.UD sig nD τ) (Lvl := ℕ) (Val := Elt F) (τ := τ) osem0 c) : sProp 𝕄) := by
  refine BIBase.Entails.trans (Entails.of_eq (threes (fun i => slab c (Memref.whole cc0_scratch0) W i) (fun i => source c (Memref.whole main_arg1) W i)
    (fun i => semVal ((c : Thread nD τ), SemLoc.dma (cell cc0_scratch4 i)) 0))) ?_
  have h1 := slabs_join (F := F) c (Memref.whole main_arg1) W
  have h2 := slabs_join (F := F) c (Memref.whole cc0_scratch0) W
  have e1 := Entails.of_eq (owns_whole (Ix := Unit) (Name := ℕ) (U := Pipeline.UD sig nD τ) (Lvl := ℕ) (Val := Elt F) (c : Thread nD τ) main_arg1 fullShare W)
  have e2 := Entails.of_eq (owns_whole (Ix := Unit) (Name := ℕ) (U := Pipeline.UD sig nD τ) (Lvl := ℕ) (Val := Elt F) (c : Thread nD τ) cc0_scratch0 fullShare W)
  iintro ⟨H2, H1, H3⟩
  isplitl [H1]
  · iapply e1
    iapply h1 $$ H1
  isplitl [H2]
  · iexists W
    iapply e2
    iapply h2 $$ H2
  unfold Pipeline.ownSems0
  iexact H3

/-! ## The data of the pipeline -/

/-- The result: what the body computes from the arrays as the region finds them. -/
def result (c : Dev nD) : FVec F S128x11008 .bf16 :=
  resultOf (V m c main_v0) (V m c main_v4) (V m c main_arg1) (V m c main_v6) (V m c main_arg3) (V m c main_v9) (V m c main_v10)
    (V m c main_arg6) (V m c main_arg7) (V m c main_v11)

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, h⟩ => iblk m c ⟨0, h⟩ t
    | ⟨1, h⟩ => iblk m c ⟨1, h⟩ t
    | ⟨2, h⟩ => iblk m c ⟨2, h⟩ t
    | ⟨3, h⟩ => iblk m c ⟨3, h⟩ t
    | ⟨4, h⟩ => iblk m c ⟨4, h⟩ t
    | ⟨5, h⟩ => iblk m c ⟨5, h⟩ t
    | ⟨6, h⟩ => iblk m c ⟨6, h⟩ t
    | ⟨7, h⟩ => iblk m c ⟨7, h⟩ t
    | ⟨8, h⟩ => iblk m c ⟨8, h⟩ t
    | ⟨9, _⟩ => result m c
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

/-- The block of an array staged whole is the array. -/
theorem whole_read (r : Ref sig .tc) (off : Fin r.ty.shape.rank → Nat) (h0 : ∀ a, off a = 0) (f : r.ty.Contents (Elt F)) :
    ((Memref.whole r).access (Rect.unit off r.ty.shape.size (fun a => by rw [h0 a, Nat.zero_add])) : View sig .tc _ _ _).read (Elt F) f = f :=
  Memref.read_access_unit_zero (Elt F) r (funext h0) _ f

/-! Every operand's block is its array. -/

theorem iblk0 (c : Dev nD) (t : Fin cfg0.N) : iblk m c 0 t = V m c main_v0 := by
  unfold iblk
  exact whole_read main_v0 (fun a => (win0_0.index t) a * main_v0.ty.shape.size a) (fun a => Nat.zero_mul _) _
theorem iblk1 (c : Dev nD) (t : Fin cfg0.N) : iblk m c 1 t = V m c main_v4 := by
  unfold iblk
  exact whole_read main_v4 (fun a => (win0_1.index t) a * main_v4.ty.shape.size a) (fun a => Nat.zero_mul _) _
theorem iblk2 (c : Dev nD) (t : Fin cfg0.N) : iblk m c 2 t = V m c main_v6 := by
  unfold iblk
  exact whole_read main_v6 (fun a => (win0_2.index t) a * main_v6.ty.shape.size a) (fun a => Nat.zero_mul _) _
theorem iblk3 (c : Dev nD) (t : Fin cfg0.N) : iblk m c 3 t = V m c main_arg3 := by
  unfold iblk
  exact whole_read main_arg3 (fun a => (win0_3.index t) a * main_arg3.ty.shape.size a) (fun a => Nat.zero_mul _) _
theorem iblk4 (c : Dev nD) (t : Fin cfg0.N) : iblk m c 4 t = V m c main_v9 := by
  unfold iblk
  exact whole_read main_v9 (fun a => (win0_4.index t) a * main_v9.ty.shape.size a) (fun a => Nat.zero_mul _) _
theorem iblk5 (c : Dev nD) (t : Fin cfg0.N) : iblk m c 5 t = V m c main_v10 := by
  unfold iblk
  exact whole_read main_v10 (fun a => (win0_5.index t) a * main_v10.ty.shape.size a) (fun a => Nat.zero_mul _) _
theorem iblk6 (c : Dev nD) (t : Fin cfg0.N) : iblk m c 6 t = V m c main_arg6 := by
  unfold iblk
  exact whole_read main_arg6 (fun a => (win0_6.index t) a * main_arg6.ty.shape.size a) (fun a => Nat.zero_mul _) _
theorem iblk7 (c : Dev nD) (t : Fin cfg0.N) : iblk m c 7 t = V m c main_arg7 := by
  unfold iblk
  exact whole_read main_arg7 (fun a => (win0_7.index t) a * main_arg7.ty.shape.size a) (fun a => Nat.zero_mul _) _
theorem iblk8 (c : Dev nD) (t : Fin cfg0.N) : iblk m c 8 t = V m c main_v11 := by
  unfold iblk
  exact whole_read main_v11 (fun a => (win0_8.index t) a * main_v11.ty.shape.size a) (fun a => Nat.zero_mul _) _

/-! Before the body every operand's buffer holds its array, and the body leaves it so. -/

theorem before0 (c : Dev nD) (t : Fin cfg0.N) (d) : (dats m 0 c).before 0 t d = V m c main_v0 :=
  (((dats m 0 c).before_in_eq_fetched 0 rfl (fun _ => rfl) (fun _ _ _ => rfl) (fun t => by dsimp only [dats]; unfold Dat.blockOf iblk; dsimp only) t d).trans
    (by unfold Dat.fetched Dat.blockOf; rw [A_eq]; rfl)).trans (iblk0 m c t)
theorem after0 (c : Dev nD) (t : Fin cfg0.N) : (dats m 0 c).after 0 t = V m c main_v0 :=
  (show (dats m 0 c).after 0 t = iblk m c 0 t by dsimp only [dats]; rfl).trans (iblk0 m c t)
theorem before1 (c : Dev nD) (t : Fin cfg0.N) (d) : (dats m 0 c).before 1 t d = V m c main_v4 :=
  (((dats m 0 c).before_in_eq_fetched 1 rfl (fun _ => rfl) (fun _ _ _ => rfl) (fun t => by dsimp only [dats]; unfold Dat.blockOf iblk; dsimp only) t d).trans
    (by unfold Dat.fetched Dat.blockOf; rw [A_eq]; rfl)).trans (iblk1 m c t)
theorem after1 (c : Dev nD) (t : Fin cfg0.N) : (dats m 0 c).after 1 t = V m c main_v4 :=
  (show (dats m 0 c).after 1 t = iblk m c 1 t by dsimp only [dats]; rfl).trans (iblk1 m c t)
theorem before2 (c : Dev nD) (t : Fin cfg0.N) (d) : (dats m 0 c).before 2 t d = V m c main_v6 :=
  (((dats m 0 c).before_in_eq_fetched 2 rfl (fun _ => rfl) (fun _ _ _ => rfl) (fun t => by dsimp only [dats]; unfold Dat.blockOf iblk; dsimp only) t d).trans
    (by unfold Dat.fetched Dat.blockOf; rw [A_eq]; rfl)).trans (iblk2 m c t)
theorem after2 (c : Dev nD) (t : Fin cfg0.N) : (dats m 0 c).after 2 t = V m c main_v6 :=
  (show (dats m 0 c).after 2 t = iblk m c 2 t by dsimp only [dats]; rfl).trans (iblk2 m c t)
theorem before3 (c : Dev nD) (t : Fin cfg0.N) (d) : (dats m 0 c).before 3 t d = V m c main_arg3 :=
  (((dats m 0 c).before_in_eq_fetched 3 rfl (fun _ => rfl) (fun _ _ _ => rfl) (fun t => by dsimp only [dats]; unfold Dat.blockOf iblk; dsimp only) t d).trans
    (by unfold Dat.fetched Dat.blockOf; rw [A_eq]; rfl)).trans (iblk3 m c t)
theorem after3 (c : Dev nD) (t : Fin cfg0.N) : (dats m 0 c).after 3 t = V m c main_arg3 :=
  (show (dats m 0 c).after 3 t = iblk m c 3 t by dsimp only [dats]; rfl).trans (iblk3 m c t)
theorem before4 (c : Dev nD) (t : Fin cfg0.N) (d) : (dats m 0 c).before 4 t d = V m c main_v9 :=
  (((dats m 0 c).before_in_eq_fetched 4 rfl (fun _ => rfl) (fun _ _ _ => rfl) (fun t => by dsimp only [dats]; unfold Dat.blockOf iblk; dsimp only) t d).trans
    (by unfold Dat.fetched Dat.blockOf; rw [A_eq]; rfl)).trans (iblk4 m c t)
theorem after4 (c : Dev nD) (t : Fin cfg0.N) : (dats m 0 c).after 4 t = V m c main_v9 :=
  (show (dats m 0 c).after 4 t = iblk m c 4 t by dsimp only [dats]; rfl).trans (iblk4 m c t)
theorem before5 (c : Dev nD) (t : Fin cfg0.N) (d) : (dats m 0 c).before 5 t d = V m c main_v10 :=
  (((dats m 0 c).before_in_eq_fetched 5 rfl (fun _ => rfl) (fun _ _ _ => rfl) (fun t => by dsimp only [dats]; unfold Dat.blockOf iblk; dsimp only) t d).trans
    (by unfold Dat.fetched Dat.blockOf; rw [A_eq]; rfl)).trans (iblk5 m c t)
theorem after5 (c : Dev nD) (t : Fin cfg0.N) : (dats m 0 c).after 5 t = V m c main_v10 :=
  (show (dats m 0 c).after 5 t = iblk m c 5 t by dsimp only [dats]; rfl).trans (iblk5 m c t)
theorem before6 (c : Dev nD) (t : Fin cfg0.N) (d) : (dats m 0 c).before 6 t d = V m c main_arg6 :=
  (((dats m 0 c).before_in_eq_fetched 6 rfl (fun _ => rfl) (fun _ _ _ => rfl) (fun t => by dsimp only [dats]; unfold Dat.blockOf iblk; dsimp only) t d).trans
    (by unfold Dat.fetched Dat.blockOf; rw [A_eq]; rfl)).trans (iblk6 m c t)
theorem after6 (c : Dev nD) (t : Fin cfg0.N) : (dats m 0 c).after 6 t = V m c main_arg6 :=
  (show (dats m 0 c).after 6 t = iblk m c 6 t by dsimp only [dats]; rfl).trans (iblk6 m c t)
theorem before7 (c : Dev nD) (t : Fin cfg0.N) (d) : (dats m 0 c).before 7 t d = V m c main_arg7 :=
  (((dats m 0 c).before_in_eq_fetched 7 rfl (fun _ => rfl) (fun _ _ _ => rfl) (fun t => by dsimp only [dats]; unfold Dat.blockOf iblk; dsimp only) t d).trans
    (by unfold Dat.fetched Dat.blockOf; rw [A_eq]; rfl)).trans (iblk7 m c t)
theorem after7 (c : Dev nD) (t : Fin cfg0.N) : (dats m 0 c).after 7 t = V m c main_arg7 :=
  (show (dats m 0 c).after 7 t = iblk m c 7 t by dsimp only [dats]; rfl).trans (iblk7 m c t)
theorem before8 (c : Dev nD) (t : Fin cfg0.N) (d) : (dats m 0 c).before 8 t d = V m c main_v11 :=
  (((dats m 0 c).before_in_eq_fetched 8 rfl (fun _ => rfl) (fun _ _ _ => rfl) (fun t => by dsimp only [dats]; unfold Dat.blockOf iblk; dsimp only) t d).trans
    (by unfold Dat.fetched Dat.blockOf; rw [A_eq]; rfl)).trans (iblk8 m c t)
theorem after8 (c : Dev nD) (t : Fin cfg0.N) : (dats m 0 c).after 8 t = V m c main_v11 :=
  (show (dats m 0 c).after 8 t = iblk m c 8 t by dsimp only [dats]; rfl).trans (iblk8 m c t)
theorem out_after (c : Dev nD) (t : Fin cfg0.N) : (dats m 0 c).after 9 t = result m c := by dsimp only [dats]

/-! ## The body -/

/-- The invariant, its parts named. -/
theorem Phi_eq (c : Dev nD) :
    (Pipeline.ΦD osem0 spec0 H0 (V m) c : sProp 𝕄)
      = iprop(((∃ f : Buf (Elt F) ((c : Thread nD τ).loc cc0_scratch0), ((c : Thread nD τ).loc cc0_scratch0) ↦{fullShare} f)
          ∗ (∃ f : Buf (Elt F) ((c : Thread nD τ).loc cc0_scratch1), ((c : Thread nD τ).loc cc0_scratch1) ↦{fullShare} f)
          ∗ (∃ f : Buf (Elt F) ((c : Thread nD τ).loc cc0_scratch2), ((c : Thread nD τ).loc cc0_scratch2) ↦{fullShare} f)
          ∗ (∃ f : Buf (Elt F) ((c : Thread nD τ).loc cc0_scratch3), ((c : Thread nD τ).loc cc0_scratch3) ↦{fullShare} f))
        ∗ (∃ r, prngReg c r)
        ∗ Pipeline.ownSems0 (Ix := Unit) (Name := ℕ) (U := Pipeline.UD sig nD τ) (Lvl := ℕ) (Val := Elt F) (τ := τ) osem0 c
        ∗ (((c : Thread nD τ).loc main_arg1) ↦{fullShare} V m c main_arg1)) := by
  rw [Pipeline.ΦD_eq, scopedRest0_eq]
  rw [show (bigSep H0 (fun b => ((c : Thread nD τ).loc b) ↦{fullShare} V m c b) : sProp 𝕄) = (((c : Thread nD τ).loc main_arg1) ↦{fullShare} V m c main_arg1) from by
    rw [BI.bigSep_eq_bigSepL_of_eq [main_arg1] (by decide) (by decide)]; rfl]

/-- A buffer owned whole at something is owned at any contents at all. -/
theorem some_of (c : Dev nD) (b : Ref sig .tc) :
    (iprop(∃ f : Buf (Elt F) ((c : Thread nD τ).loc b), ((c : Thread nD τ).loc b) ↦{fullShare} f) : sProp 𝕄)
      ⊢ ownsSat (c : Thread nD τ) (Memref.whole b) fullShare (fun _ => True) := by
  refine BIBase.Entails.trans ?_ (ownsSat_true (c : Thread nD τ) (Memref.whole b) fullShare).2
  iintro ⟨%f, H⟩
  iexists f
  rw [owns_whole]
  iexact H

/-- And back. -/
theorem of_some (c : Dev nD) (b : Ref sig .tc) :
    (ownsSat (c : Thread nD τ) (Memref.whole b) fullShare (fun _ => True) : sProp 𝕄)
      ⊢ iprop(∃ f : Buf (Elt F) ((c : Thread nD τ).loc b), ((c : Thread nD τ).loc b) ↦{fullShare} f) := by
  refine BIBase.Entails.trans (ownsSat_true (c : Thread nD τ) (Memref.whole b) fullShare).1 ?_
  iintro ⟨%f, H⟩
  iexists f
  rw [← owns_whole]
  iexact H

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))
/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- The body at a point is the restated body. -/
theorem bodyAt_eq (t : Fin cfg0.N) :
    bodyAt0 (F := F) t = Shape.body (st0_0 t) (st0_1 t) (Memref.whole main_arg1) (Memref.isWhole_whole _) (st0_2 t) (st0_3 t) (st0_4 t) (st0_5 t) (st0_6 t) (st0_7 t) (st0_8 t) (st0_9 t) (Gen.hstage0_9 0)
      (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 :=
  body_eq ..

/-- The body at a point takes what it is given to what it gives back. -/
theorem sound_body (c : Dev nD) (t : Fin cfg0.N) :
    bodyPre m c t ⊢ wp frame (wpE (defs₀ (F := F)) Variants.none c none) Set.univ (bodyAt0 t) (fun _ => bodyPost m c t) := by
  have hspec := body_spec c (st0_0 t) (st0_1 t) (Memref.whole main_arg1) (Memref.isWhole_whole _) (st0_2 t) (st0_3 t) (st0_4 t) (st0_5 t) (st0_6 t) (st0_7 t) (st0_8 t) (st0_9 t) (Gen.hstage0_9 0)
    (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4
    (V m c main_v0) (V m c main_v4) (V m c main_arg1) (V m c main_v6) (V m c main_arg3) (V m c main_v9) (V m c main_v10) (V m c main_arg6) (V m c main_arg7) (V m c main_v11)
    (fun _ => bodyPost m c t)
  unfold WP at hspec
  rw [bodyAt_eq]
  unfold bodyPre
  simp only [before0, before1, before2, before3, before4, before5, before6, before7, before8]
  have hpost : bodyPost m c t = iprop((dats m 0 c).Φ t.succ ∗ (dats m 0 c).owesAt () t.succ
    ∗ owns (c : Thread nD τ) (st0_0 t) fullShare (V m c main_v0) ∗ owns (c : Thread nD τ) (st0_1 t) fullShare (V m c main_v4)
    ∗ owns (c : Thread nD τ) (st0_2 t) fullShare (V m c main_v6) ∗ owns (c : Thread nD τ) (st0_3 t) fullShare (V m c main_arg3)
    ∗ owns (c : Thread nD τ) (st0_4 t) fullShare (V m c main_v9) ∗ owns (c : Thread nD τ) (st0_5 t) fullShare (V m c main_v10)
    ∗ owns (c : Thread nD τ) (st0_6 t) fullShare (V m c main_arg6) ∗ owns (c : Thread nD τ) (st0_7 t) fullShare (V m c main_arg7)
    ∗ owns (c : Thread nD τ) (st0_8 t) fullShare (V m c main_v11) ∗ owns (c : Thread nD τ) (st0_9 t) fullShare (result m c)) := by
    unfold bodyPost
    simp only [out_after, after0, after1, after2, after3, after4, after5, after6, after7, after8]
  rw [hpost] at hspec ⊢
  rw [show (dats m 0 c).Φ t.succ = Pipeline.ΦD osem0 spec0 H0 (V m) c from rfl, Phi_eq] at hspec ⊢
  rw [show (dats m 0 c).Φ t.castSucc = Pipeline.ΦD osem0 spec0 H0 (V m) c from rfl, Phi_eq]
  unfold Dat.owesAt Pipeline.owesWithin at hspec ⊢
  rw [show (dats m 0 c).owed t.succ = 0 from rfl] at hspec ⊢
  iintro ⟨⟨⟨HS0, HS1, HS2, HS3⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply hspec $$ [HS0 HS1 HS2 HS3 Hq Hh HW H0 H1 H2 H3 H4 H5 H6 H7 H8 H9]
  · isplitl [H0]; · iexact H0
    isplitl [H2]; · iexact H2
    isplitl [H6]; · iexact H6
    isplitl [H1 H7 H8]
    · isplitl [H1]; · iexact H1
      isplitl [H7]; · iexact H7
      iexact H8
    isplitl [H3]; · iexact H3
    isplitl [H4]; · iexact H4
    isplitl [H5]; · iexact H5
    isplitl [HS0 Hq Hh]
    · iapply (blocks_split c (V m c main_arg1))
      isplitl [Hh]; · iexact Hh
      isplitl [HS0]; · iexact HS0
      iexact Hq
    isplitl [HW]; · iexists W; iexact HW
    isplitl [HS1]; · iapply (some_of c cc0_scratch1) $$ HS1
    isplitl [HS2]; · iapply (some_of c cc0_scratch2) $$ HS2
    isplitl [HS3]; · iapply (some_of c cc0_scratch3) $$ HS3
    iapply (ownsSat_intro (c : Thread nD τ) (st0_9 t) fullShare trivial) $$ H9
  iintro ⟨H0, H2, H6, ⟨H1, H7, H8⟩, H3, H4, H5, Hb, ⟨%W', HW⟩, HS1, HS2, HS3, H9⟩
  ihave Hb := (blocks_join c (V m c main_arg1)) $$ Hb
  icases Hb with ⟨Hh, HS0, Hq⟩
  isplitl [HS0 HS1 HS2 HS3 Hg Hq Hh]
  · isplitl [HS0 HS1 HS2 HS3]
    · isplitl [HS0]; · iexact HS0
      isplitl [HS1]; · iapply (of_some c cc0_scratch1) $$ HS1
      isplitl [HS2]; · iapply (of_some c cc0_scratch2) $$ HS2
      iapply (of_some c cc0_scratch3) $$ HS3
    isplitl [Hg]; · iexact Hg
    isplitl [Hq]; · iexact Hq
    iexact Hh
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold result
  iexact H9

/-! ## The run and the frame -/

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
/-- The host operations before the region, at this proof's algebra. -/
theorem main_upto : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := main_upto m) (hA := A_eq m)
    (hin := fun _ => .rfl) (hout := fun _ => .rfl)

/-- The result array holds what the body left in its block. -/
theorem final (c : Dev nD) : (dats m 0 c).arrAt 9 cfg0.N = result m c :=
  (dats m 0 c).arrAt_eq_of_after_last 9 t0_0 (by decide +kernel) (result m c) fun j => by
    rw [out_after]; rfl

/-- The program ends, with its nine arguments unchanged, every semaphore at zero and `result` in the result array. -/
theorem ends : θ_run defs (onTc (τ := τ) (main (F := F))) ⟨m, fun _ => 0, ρ⟩ (fun r => (∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).1 9).trans (final m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).1 3).trans (((dats m 0 c).arrAt_in 3 rfl _).trans ((A_eq m c 3).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).1 6).trans (((dats m 0 c).arrAt_in 6 rfl _).trans ((A_eq m c 6).trans (V_main_arg6 m c))),
      ((h.1 c).1 7).trans (((dats m 0 c).arrAt_in 7 rfl _).trans ((A_eq m c 7).trans (V_main_arg7 m c))),
      ((h.1 c).2 main_arg8 (Pipeline.mem_restRefs_of main_arg8 (by decide) (by decide))).trans (V_main_arg8 m c)⟩, h.2⟩) (run_main m ρ)

end Cert.KernelIdeal.Hand

end
-- ==== Proof.Tile.lean ====
/- One tile of weights, entry by entry: which number each packed half byte becomes. -/
module

public import proofs.«01_k».proof.Proof.IdealShape
public import Idealize.ShloMosaic.Lib.Pointwise
public import Idealize.ShloMosaic.Lib.BitcastFour
public import Idealize.ShloMosaic.Lib.BitcastPair

@[expose] public section

noncomputable section

namespace Cert.KernelIdeal.Tile

open Cert.KernelIdeal Cert.KernelIdeal.Shape
open Idealize.ShloMosaic

variable {F : FTy → Type} [FloatOps F]
variable [Facts]
open Facts₀ Facts

/-! ## Bytes, halves and words -/

/-- The bytes of words: byte row `k` of a column is byte `k % 4` of word `k / 4`. -/
theorem byte_apply (x : IVec S32x256 32) (k : Fin 128) (n : Fin 256) :
    bitcast S128x256 8 x bitcasts_S32x256_w32_S128x256_w8 (ix2 k n)
      = (x (ix2 ⟨k.val / 4, by omega⟩ n)).extractLsb' (8 * (k.val % 4)) 8 := by
  apply BitVec.eq_of_getLsbD_eq
  intro i hi
  rw [bitcast_getLsbD x _ _ i hi (by decide), BitVec.getLsbD_extractLsb']
  have hr : S128x256.row (ix2 k n) = k.val := rfl
  have e1 : (k.val * 8 + i) / 32 = k.val / 4 := by omega
  have e2 : (k.val * 8 + i) % 32 = 8 * (k.val % 4) + i := by omega
  simp only [hr, e2, hi, decide_true, Bool.true_and]
  congr 2
  funext a
  match a with
  | ⟨0, _⟩ => exact Fin.ext (by rw [Shape.Bitcasts.srcIdx_row _ _ _ _ _ rfl]; exact e1)
  | ⟨1, _⟩ => exact Fin.ext (by rw [Shape.Bitcasts.srcIdx_other _ _ _ _ _ (show ¬ (1 + 2 = 2) by decide)]; rfl)

/-- The words of bytes: byte `e` of word row `r` is byte row `4 r + e`. -/
theorem word_byte (x : IVec S128x256 8) (r : Fin 32) (n : Fin 256) (e i : Nat) (he : e < 4) (hi : i < 8) :
    (bitcast S32x256 32 x bitcasts_S128x256_w8_S32x256_w32 (ix2 r n)).getLsbD (8 * e + i)
      = (x (ix2 ⟨4 * r.val + e, by omega⟩ n)).getLsbD i := by
  have h := Idealize.ShloMosaic.bitcast_8_32_getLsbD x bitcasts_S128x256_w8_S32x256_w32 (ix2 r n) (8 * e + i) (by omega)
  have e1 : (8 * e + i) / 8 = e := by omega
  have e2 : (8 * e + i) % 8 = i := by omega
  rw [h, e2]
  congr 2
  funext a
  match a with
  | ⟨0, _⟩ => exact Fin.ext (by rw [Shape.Bitcasts.srcIdx_row _ _ _ _ _ rfl, e1]; rfl)
  | ⟨1, _⟩ => exact Fin.ext (by rw [Shape.Bitcasts.srcIdx_other _ _ _ _ _ (show ¬ (1 + 2 = 2) by decide)]; rfl)

/-- Bytes read as half words: half row `k` is byte rows `2 k` (low) and `2 k + 1` (high). -/
theorem half_apply (x : IVec S128x256 8) (k : Fin 64) (n : Fin 256) (v : BitVec 16)
    (h0 : x (ix2 ⟨2 * k.val, by omega⟩ n) = v.extractLsb' 0 8) (h1 : x (ix2 ⟨2 * k.val + 1, by omega⟩ n) = v.extractLsb' 8 8) :
    bitcast S64x256 16 (bitcast S32x256 32 x bitcasts_S128x256_w8_S32x256_w32) bitcasts_S32x256_w32_S64x256_w16 (ix2 k n) = v := by
  rw [bitcast_32_16]
  apply BitVec.eq_of_getLsbD_eq
  intro i hi
  rw [BitVec.getLsbD_extractLsb']
  have hr : S64x256.row (ix2 k n) = k.val := rfl
  have hs : bitcasts_S32x256_w32_S64x256_w16.srcIdx (ix2 k n) (S64x256.row (ix2 k n) / 2) (fun a ha => by
        have := bitcasts_S32x256_w32_S64x256_w16.pos_lt (ix2 k n) 0 (by decide) a ha; omega) = ix2 ⟨k.val / 2, by omega⟩ n := by
    funext a
    match a with
    | ⟨0, _⟩ => exact Fin.ext (by rw [Shape.Bitcasts.srcIdx_row _ _ _ _ _ rfl]; rfl)
    | ⟨1, _⟩ => exact Fin.ext (by rw [Shape.Bitcasts.srcIdx_other _ _ _ _ _ (show ¬ (1 + 2 = 2) by decide)]; rfl)
  simp only [hs, hr, hi, decide_true, Bool.true_and]
  by_cases h8 : i < 8
  · rw [show 16 * (k.val % 2) + i = 8 * (2 * (k.val % 2)) + i by omega, word_byte x _ n _ i (by omega) h8,
      show (⟨4 * (k.val / 2) + 2 * (k.val % 2), by omega⟩ : Fin 128) = ⟨2 * k.val, by omega⟩ from Fin.ext (by show 4 * (k.val / 2) + 2 * (k.val % 2) = 2 * k.val; omega),
      h0, BitVec.getLsbD_extractLsb']
    simp [h8]
  · rw [show 16 * (k.val % 2) + i = 8 * (2 * (k.val % 2) + 1) + (i - 8) by omega, word_byte x _ n _ (i - 8) (by omega) (by omega),
      show (⟨4 * (k.val / 2) + (2 * (k.val % 2) + 1), by omega⟩ : Fin 128) = ⟨2 * k.val + 1, by omega⟩ from Fin.ext (by show 4 * (k.val / 2) + (2 * (k.val % 2) + 1) = 2 * k.val + 1; omega),
      h1, BitVec.getLsbD_extractLsb']
    simp [show i - 8 < 8 by omega, show 8 + (i - 8) = i by omega]

/-! ## The lane table -/

/-- The low byte of a value as the table computes it. -/
theorem low_bits (v : BitVec 16) :
    BitVec.setWidth 8 (BitVec.signExtend 32 (BitVec.setWidth 8 (IntOp.andi (IntOp.shrsi ArithUnit.vector (IntOp.shli ArithUnit.vector (v.signExtend 32) 16#32) 16#32) 255#32)))
      = v.extractLsb' 0 8 := by
  apply BitVec.eq_of_getLsbD_eq
  intro i hi
  interval_cases i <;> simp [IntOp.andi, IntOp.shrsi, IntOp.shli, BitVec.getLsbD_signExtend, BitVec.getLsbD_sshiftRight, BitVec.getElem_sshiftRight, BitVec.getElem_signExtend, BitVec.getLsbD_extractLsb']

/-- The high byte of a value as the table computes it. -/
theorem high_bits (v : BitVec 16) :
    BitVec.setWidth 8 (BitVec.signExtend 32 (BitVec.setWidth 8 (IntOp.andi (IntOp.shrsi ArithUnit.vector (IntOp.shli ArithUnit.vector (v.signExtend 32) 16#32) 24#32) 255#32)))
      = v.extractLsb' 8 8 := by
  apply BitVec.eq_of_getLsbD_eq
  intro i hi
  interval_cases i <;> simp [IntOp.andi, IntOp.shrsi, IntOp.shli, BitVec.getLsbD_signExtend, BitVec.getLsbD_sshiftRight, BitVec.getElem_sshiftRight, BitVec.getElem_signExtend, BitVec.getLsbD_extractLsb']

/-- Lanes 0 to 15 of the table hold the low bytes of the sixteen values, lanes 16 to 31 the high bytes. -/
theorem laneTable_apply (t : IVec S16x256 16) (r : Fin 128) (v : Fin 16) (e : Fin 2) :
    (laneTable t (ix2 r ⟨16 * e.val + v.val, by omega⟩)).setWidth 8 = (t (ix2 v ⟨r.val, by omega⟩)).extractLsb' (8 * e.val) 8 := by
  pointwise [laneTable]
  match e with
  | ⟨0, _⟩ =>
    have h : 16 * 0 + v.val < 16 := by omega
    have h' : 16 * 0 + v.val < 32 := by omega
    rw [dif_pos h', dif_pos h, low_bits]
    congr 2
    exact congrArg (fun a => ix2 a _) (Fin.ext (by show 16 * 0 + v.val = v.val; omega))
  | ⟨1, _⟩ =>
    have h : ¬ (16 * 1 + v.val < 16) := by omega
    have h' : 16 * 1 + v.val < 32 := by omega
    rw [dif_pos h', dif_neg h, high_bits]
    congr 2
    exact congrArg (fun a => ix2 a _) (Fin.ext (by show 16 * 1 + v.val - 16 = v.val; omega))

/-! ## The nibbles -/

/-- Byte `2 p + e` of a word of quarter `q` has, as its low nibble, nibble `q % 2` of byte `2 p + q / 2` of the word. -/
theorem quarter_nibble (q : Fin 4) (p e : Fin 2) (w : IVec S32x256 32) (r : Fin 32) (n : Fin 256) (i : Nat) (hi : i < 4) :
    (quarter q.val w (ix2 r n)).getLsbD (16 * p.val + 8 * e.val + i)
      = (w (ix2 r n)).getLsbD (16 * p.val + 8 * (q.val / 2) + 4 * (q.val % 2) + i) := by
  generalize hw : w (ix2 r n) = b
  match q, p, e with
  | ⟨0, _⟩, ⟨0, _⟩, ⟨0, _⟩ | ⟨0, _⟩, ⟨0, _⟩, ⟨1, _⟩ | ⟨0, _⟩, ⟨1, _⟩, ⟨0, _⟩ | ⟨0, _⟩, ⟨1, _⟩, ⟨1, _⟩
  | ⟨1, _⟩, ⟨0, _⟩, ⟨0, _⟩ | ⟨1, _⟩, ⟨0, _⟩, ⟨1, _⟩ | ⟨1, _⟩, ⟨1, _⟩, ⟨0, _⟩ | ⟨1, _⟩, ⟨1, _⟩, ⟨1, _⟩
  | ⟨2, _⟩, ⟨0, _⟩, ⟨0, _⟩ | ⟨2, _⟩, ⟨0, _⟩, ⟨1, _⟩ | ⟨2, _⟩, ⟨1, _⟩, ⟨0, _⟩ | ⟨2, _⟩, ⟨1, _⟩, ⟨1, _⟩
  | ⟨3, _⟩, ⟨0, _⟩, ⟨0, _⟩ | ⟨3, _⟩, ⟨0, _⟩, ⟨1, _⟩ | ⟨3, _⟩, ⟨1, _⟩, ⟨0, _⟩ | ⟨3, _⟩, ⟨1, _⟩, ⟨1, _⟩ =>
    pointwise [quarter, dupLow]
    rw [hw]
    interval_cases i <;> simp [IntOp.andi, IntOp.ori, IntOp.shrsi, IntOp.shli, BitVec.getLsbD_sshiftRight, BitVec.getElem_sshiftRight]

/-! ## A number looked up -/

/-- The bits of a lane's number. -/
theorem lane_bits (e : Fin 2) (v : Fin 16) (i : Nat) (hi : i < 8) :
    (BitVec.ofNat 8 (16 * e.val + v.val)).getLsbD i = if i < 4 then v.val.testBit i else decide (i = 4) && decide (e.val = 1) := by
  revert e v
  interval_cases i <;> decide

/-- The lane that a byte of the looked-up index names: `16 e + v`. -/
theorem lane_of (a : BitVec 32) (p e : Fin 2) (v : Fin 16)
    (h : ∀ i, i < 4 → a.getLsbD (16 * p.val + 8 * e.val + i) = v.val.testBit i) :
    (BitVec.signExtend 32 (BitVec.extractLsb' (8 * (2 * p.val + e.val)) 8 (IntOp.ori (IntOp.andi a 252645135#32) (IntOp.shli ArithUnit.vector 16777472#32 4#32)))).toNat % 128
      = 16 * e.val + v.val := by
  have key : BitVec.extractLsb' (8 * (2 * p.val + e.val)) 8 (IntOp.ori (IntOp.andi a 252645135#32) (IntOp.shli ArithUnit.vector 16777472#32 4#32))
      = BitVec.ofNat 8 (16 * e.val + v.val) := by
    have h0 := h 0 (by decide)
    have h1 := h 1 (by decide)
    have h2 := h 2 (by decide)
    have h3 := h 3 (by decide)
    apply BitVec.eq_of_getLsbD_eq
    intro i hi
    rw [lane_bits e v i hi]
    match p, e with
    | ⟨0, _⟩, ⟨0, _⟩ | ⟨0, _⟩, ⟨1, _⟩ | ⟨1, _⟩, ⟨0, _⟩ | ⟨1, _⟩, ⟨1, _⟩ =>
      interval_cases i <;> simp_all [IntOp.andi, IntOp.ori, IntOp.shli]
  rw [key]
  clear key h
  revert e v
  decide

/-- A quarter's looked-up number: where the nibble is `v`, it is the value `v` of the table. -/
theorem looked_apply (t : IVec S16x256 16) (src : IVec S32x256 32) (r : Fin 32) (p : Fin 2) (n : Fin 256) (v : Fin 16) (u : BitVec 16)
    (h : ∀ (e : Fin 2) i, i < 4 → (src (ix2 r n)).getLsbD (16 * p.val + 8 * e.val + i) = v.val.testBit i)
    (hu : ∀ l : Fin 256, t (ix2 v l) = u) :
    looked (F := F) (laneTable t) planes src (ix2 ⟨2 * r.val + p.val, by omega⟩ n) = FloatOps.ofBits .bf16 u := by
  unfold looked
  rw [bitcastToFloat_apply]
  refine congrArg _ ?_
  have key : ∀ e : Fin 2, ∀ k : Fin 128, k.val = 4 * r.val + (2 * p.val + e.val) →
      (BitVec.signExtend 32 (bitcast S128x256 8 (ori (andi src (broadcast S32x256 252645135#32)) (shli planes (broadcast S32x256 4#32))) bitcasts_S32x256_w32_S128x256_w8 (ix2 k n))).toNat % 128 = 16 * e.val + v.val := by
    intro e k hk
    have e1 : k.val / 4 = r.val := by omega
    have e2 : k.val % 4 = 2 * p.val + e.val := by omega
    rw [byte_apply, e2, show (⟨k.val / 4, by omega⟩ : Fin 32) = r from Fin.ext e1]
    pointwise [planes]
    exact lane_of _ p e v (h e)
  have entry : ∀ e : Fin 2, ∀ k : Fin 128, k.val = 4 * r.val + (2 * p.val + e.val) → ∀ n' : Fin 256, n' = n → ∀ hl,
      BitVec.setWidth 8 (laneTable t (ix2 k ⟨(BitVec.signExtend 32 (bitcast S128x256 8 (ori (andi src (broadcast S32x256 252645135#32)) (shli planes (broadcast S32x256 4#32))) bitcasts_S32x256_w32_S128x256_w8 (ix2 k n'))).toNat % 128, hl⟩))
        = u.extractLsb' (8 * e.val) 8 := by
    rintro e k hk n' rfl hl
    rw [← hu ⟨k.val, by omega⟩, ← laneTable_apply t k v e]
    exact congrArg (fun l => BitVec.setWidth 8 (laneTable t (ix2 k l))) (Fin.ext (key e k hk))
  apply half_apply
  · pointwise
    split
    · exact entry 0 _ (by show 2 * (2 * r.val + p.val) = 4 * r.val + (2 * p.val + 0); omega) _ rfl _
    · exact entry 0 _ (by show 2 * (2 * r.val + p.val) = 4 * r.val + (2 * p.val + 0); omega) _ (Fin.ext (by show 128 + (n.val - 128) = n.val; omega)) _
  · pointwise
    split
    · exact entry 1 _ (by show 2 * (2 * r.val + p.val) + 1 = 4 * r.val + (2 * p.val + 1); omega) _ rfl _
    · exact entry 1 _ (by show 2 * (2 * r.val + p.val) + 1 = 4 * r.val + (2 * p.val + 1); omega) _ (Fin.ext (by show 128 + (n.val - 128) = n.val; omega)) _

/-- Row `2 r + p` of a product is row `p` of pair `r` of what is stored. -/
theorem paired (g s : FVec F S64x256 .bf16) (r : Fin 32) (p : Fin 2) (n : Fin 256) :
    interleaveRows S32x2x256 (shapeCast S32x1x256 (rowsOfParity 0 S32x256 (mulf g s) bitcasts_S64x256_w16_S32x256_w32) shapeCasts_S32x256_S32x1x256)
      (shapeCast S32x1x256 (rowsOfParity 1 S32x256 (mulf g s) bitcasts_S64x256_w16_S32x256_w32) shapeCasts_S32x256_S32x1x256) bitcasts_S32x2x256_w16_S32x1x256_w32 (ix3 r p n)
      = FloatOps.mulf (g (ix2 ⟨2 * r.val + p.val, by omega⟩ n)) (s (ix2 ⟨2 * r.val + p.val, by omega⟩ n)) := by
  obtain rfl | rfl : p = 0 ∨ p = 1 := by omega
  · pointwise
  · pointwise

/-- What a quarter stores: the number that the nibble stands for, times the scale of its row. -/
theorem stored_apply (t : IVec S16x256 16) (w : IVec S32x256 32) (s : FVec F S64x256 .bf16) (q : Fin 4) (r : Fin 32) (p : Fin 2) (n : Fin 256)
    (v : Fin 16) (u : BitVec 16)
    (h : ∀ i, i < 4 → (w (ix2 r n)).getLsbD (16 * p.val + 8 * (q.val / 2) + 4 * (q.val % 2) + i) = v.val.testBit i)
    (hu : ∀ l : Fin 256, t (ix2 v l) = u) :
    stored (F := F) (laneTable t) planes w s q.val (ix3 r p n)
      = FloatOps.mulf (FloatOps.ofBits .bf16 u) (s (ix2 ⟨2 * r.val + p.val, by omega⟩ n)) := by
  have hl := looked_apply (F := F) t (quarter q.val w) r p n v u (fun e i hi => (quarter_nibble q p e w r n i hi).trans (h i hi)) hu
  rw [← hl]
  exact paired _ s r p n

end Cert.KernelIdeal.Tile
-- ==== Proof.Layer.lean ====
/- The layer entry by entry, in plain sums: what both programs compute, over the extended reals. -/
module

public import Idealize.ShloMosaic.Lib.Pointwise

@[expose] public section

noncomputable section

namespace Cert.Layer

open Idealize.ShloMosaic

/-- The code of weight `k` of a row, from the packed byte that holds it: the high half at even `k`, the low half at odd. -/
def code (w : BitVec 8) (k : Nat) : Fin 16 :=
  if k % 2 = 0 then ⟨w.toNat / 16, by have := w.isLt; omega⟩ else ⟨w.toNat % 16, by omega⟩

/-- The scale of block `b` of row `o`: its code times the step of its group, plus the offset. -/
def scale (C : Fin 11008 → Fin 64 → BitVec 8) (step : Fin 2752 → EReal) (off : EReal) (o : Fin 11008) (b : Fin 64) : EReal :=
  FloatOps.sitofp (F := Ideal) .f32 (C o b) * step ⟨o.val / 4, by omega⟩ + off

/-- Weight `k` of row `o`: the number that its code stands for, times the scale of its block of 64. -/
def weight (T : Fin 16 → BitVec 16) (W : Fin 11008 → Fin 2048 → BitVec 8) (S : Fin 11008 → Fin 64 → EReal) (o : Fin 11008) (k : Fin 4096) : EReal :=
  Ideal.ofBits .bf16 (T (code (W o ⟨k.val / 2, by omega⟩) k.val)) * S o ⟨k.val / 64, by omega⟩

/-- An entry of the layer: the product with the weights, a quarter of the adapter's product, and the bias. -/
def entry (x : Fin 128 → Fin 4096 → EReal) (w : Fin 11008 → Fin 4096 → EReal) (A : Fin 64 → Fin 4096 → EReal)
    (B : Fin 11008 → Fin 64 → EReal) (bias : Fin 11008 → EReal) (i : Fin 128) (o : Fin 11008) : EReal :=
  ∑ k : Fin 4096, x i k * w o k
    + Ideal.ofBits .f32 1048576000#32 * ∑ r : Fin 64, (∑ k : Fin 4096, x i k * A r k) * B o r
    + bias o

/-- The bits of a code are those of its half of the byte. -/
theorem code_testBit (w : BitVec 8) (k i : Nat) (hi : i < 4) : (code w k).val.testBit i = w.getLsbD (4 * ((k + 1) % 2) + i) := by
  unfold code
  split
  · next h =>
    rw [show (k + 1) % 2 = 1 by omega]
    show (w.toNat / 2 ^ 4).testBit i = w.toNat.testBit _
    rw [Nat.testBit_div_two_pow, Nat.add_comm]
  · next h =>
    rw [show (k + 1) % 2 = 0 by omega]
    show (w.toNat % 2 ^ 4).testBit i = w.toNat.testBit _
    rw [Nat.testBit_mod_two_pow]
    simp [hi]

/-- Where column `k` of the input goes among the columns that the kernel multiplies by: inside each 256, the halves of
    a byte, the bytes of a half word, the half words of a word and the words change places. -/
def source (k : Fin 4096) : Fin 4096 :=
  ⟨256 * (k.val / 256) + 8 * (k.val / 2 % 32) + 4 * (k.val % 2) + 2 * (k.val / 128 % 2) + (1 - k.val / 64 % 2), by
    have h1 : k.val / 256 ≤ 15 := by omega
    have h2 : k.val / 2 % 32 < 32 := Nat.mod_lt _ (by decide)
    have h3 : k.val % 2 < 2 := Nat.mod_lt _ (by decide)
    have h4 : k.val / 128 % 2 < 2 := Nat.mod_lt _ (by decide)
    generalize k.val / 256 = a at *
    generalize k.val / 2 % 32 = b at *
    generalize k.val % 2 = c at *
    generalize k.val / 128 % 2 = d at *
    generalize k.val / 64 % 2 = e at *
    omega⟩

/-- The reverse of `source`. -/
def target (k : Fin 4096) : Fin 4096 :=
  ⟨256 * (k.val / 256) + 128 * (k.val / 2 % 2) + 64 * (1 - k.val % 2) + 2 * (k.val / 8 % 32) + k.val / 4 % 2, by
    have h1 : k.val / 256 ≤ 15 := by omega
    have h2 : k.val / 8 % 32 < 32 := Nat.mod_lt _ (by decide)
    have h3 : k.val / 2 % 2 < 2 := Nat.mod_lt _ (by decide)
    have h4 : k.val / 4 % 2 < 2 := Nat.mod_lt _ (by decide)
    generalize k.val / 256 = a at *
    generalize k.val / 8 % 32 = b at *
    generalize k.val % 2 = c at *
    generalize k.val / 2 % 2 = d at *
    generalize k.val / 4 % 2 = e at *
    omega⟩

/-- Division with remainder. -/
theorem divide (n d : Nat) (h : 0 < d) : ∃ q e, e < d ∧ n = d * q + e :=
  ⟨n / d, n % d, Nat.mod_lt _ h, (Nat.div_add_mod n d).symm⟩

/-- `source`, by the digits of a column as an array of its parts has them. -/
theorem source_digits (k : Fin 4096) :
    k.val / 256 * 256 + k.val / 16 % 4 * 64 + k.val / 2 % 8 * 8 + k.val % 2 * 4 + k.val / 128 % 2 * 2 + (2 - (k.val / 64 % 2 + 1)) = (source k).val := by
  have e : k.val / 2 % 32 = 8 * (k.val / 16 % 4) + k.val / 2 % 8 := by omega
  show _ = 256 * (k.val / 256) + 8 * (k.val / 2 % 32) + 4 * (k.val % 2) + 2 * (k.val / 128 % 2) + (1 - k.val / 64 % 2)
  rw [e]
  generalize k.val / 256 = a
  generalize k.val / 16 % 4 = b
  generalize k.val / 2 % 8 = c
  generalize k.val % 2 = d
  generalize k.val / 128 % 2 = f
  generalize k.val / 64 % 2 = g
  omega

/-- `source`, by the parts of a column. -/
theorem source_val (k : Fin 4096) (a q p0 r p : Nat) (hq : q < 2) (h0 : p0 < 2) (hr : r < 32) (hp : p < 2)
    (hk : k.val = 256 * a + 128 * q + 64 * p0 + 2 * r + p) : (source k).val = 256 * a + 8 * r + 4 * p + 2 * q + (1 - p0) := by
  have e1 : k.val / 256 = a := by omega
  have e2 : k.val / 2 % 32 = r := by omega
  have e3 : k.val % 2 = p := by omega
  have e4 : k.val / 128 % 2 = q := by omega
  have e5 : k.val / 64 % 2 = p0 := by omega
  simp only [source, e1, e2, e3, e4, e5]

/-- `target`, by the parts of a column. -/
theorem target_val (k : Fin 4096) (a q s r p : Nat) (hq : q < 2) (hs : s < 2) (hr : r < 32) (hp : p < 2)
    (hk : k.val = 256 * a + 8 * r + 4 * p + 2 * q + s) : (target k).val = 256 * a + 128 * q + 64 * (1 - s) + 2 * r + p := by
  have e1 : k.val / 256 = a := by omega
  have e2 : k.val / 8 % 32 = r := by omega
  have e3 : k.val / 4 % 2 = p := by omega
  have e4 : k.val / 2 % 2 = q := by omega
  have e5 : k.val % 2 = s := by omega
  simp only [target, e1, e2, e3, e4, e5]

/-- `target` undoes `source`. -/
theorem target_source (k : Fin 4096) : target (source k) = k := by
  obtain ⟨k1, p, hp, e1⟩ := divide k.val 2 (by decide)
  obtain ⟨k2, r, hr, rfl⟩ := divide k1 32 (by decide)
  obtain ⟨k3, p0, h0, rfl⟩ := divide k2 2 (by decide)
  obtain ⟨a, q, hq, rfl⟩ := divide k3 2 (by decide)
  have hs := source_val k a q p0 r p hq h0 hr hp (by omega)
  have ht := target_val (source k) a q (1 - p0) r p hq (by omega) hr hp hs
  exact Fin.ext (by omega)

/-- `source` undoes `target`. -/
theorem source_target (k : Fin 4096) : source (target k) = k := by
  obtain ⟨k1, s, hs, e1⟩ := divide k.val 2 (by decide)
  obtain ⟨k2, q, hq, rfl⟩ := divide k1 2 (by decide)
  obtain ⟨k3, p, hp, rfl⟩ := divide k2 2 (by decide)
  obtain ⟨a, r, hr, rfl⟩ := divide k3 32 (by decide)
  have ht := target_val k a q s r p hq hs hr hp (by omega)
  have he := source_val (target k) a q (1 - s) r p hq (by omega) hr hp ht
  exact Fin.ext (by omega)

/-- `source` is a permutation of the columns. -/
def order : Fin 4096 ≃ Fin 4096 := ⟨source, target, target_source, source_target⟩

/-- A sum over the columns, in the kernel's order. -/
theorem sum_source (f : Fin 4096 → EReal) : ∑ k : Fin 4096, f (source k) = ∑ k : Fin 4096, f k := Equiv.sum_comp order f

end Cert.Layer
-- ==== Proof.Entries.lean ====
/- The kernel's result, entry by entry, from the arrays that the kernel's body is given. -/
module

public import proofs.«01_k».proof.Proof.IdealRun
public import proofs.«01_k».proof.Proof.Tile
public import proofs.«01_k».proof.Proof.Layer

@[expose] public section

noncomputable section

namespace Cert.KernelIdeal.Entry

open Cert.KernelIdeal Cert.KernelIdeal.Shape Cert.KernelIdeal.Run Cert.KernelIdeal.Tile
open Idealize.ShloMosaic

variable [Facts]
open Facts₀ Facts

/-! ## A place of a rectangle -/

/-- A place of a rectangle of an array of two axes. -/
theorem emb_ix2 {R C r c : Nat} (a b : Nat) (h : ∀ x, (![a, b] : Fin 2 → Nat) x + (⟨2, ![r, c]⟩ : Shape).size x ≤ (⟨2, ![R, C]⟩ : Shape).size x)
    (i : Fin r) (j : Fin c) (hi : a + i.val < R) (hj : b + j.val < C) :
    (Rect.unit (s := ⟨2, ![R, C]⟩) ![a, b] (⟨2, ![r, c]⟩ : Shape).size h).emb (ix2 i j) = ix2 ⟨a + i.val, hi⟩ ⟨b + j.val, hj⟩ := by
  funext x
  match x with
  | ⟨0, _⟩ => exact Fin.ext (by show a + 1 * i.val = a + i.val; omega)
  | ⟨1, _⟩ => exact Fin.ext (by show b + 1 * j.val = b + j.val; omega)

/-- The whole of an array of two axes. -/
theorem emb_whole2 {R C : Nat} (h : ∀ x, (![0, 0] : Fin 2 → Nat) x + (⟨2, ![R, C]⟩ : Shape).size x ≤ (⟨2, ![R, C]⟩ : Shape).size x)
    (i : (⟨2, ![R, C]⟩ : Shape).Idx) : (Rect.unit (s := ⟨2, ![R, C]⟩) ![0, 0] (⟨2, ![R, C]⟩ : Shape).size h).emb i = i := by
  funext x
  match x with
  | ⟨0, _⟩ => exact Fin.ext (by show 0 + 1 * (i 0).val = (i 0).val; omega)
  | ⟨1, _⟩ => exact Fin.ext (by show 0 + 1 * (i 1).val = (i 1).val; omega)

/-- The whole of an array of three axes. -/
theorem emb_whole3 {A B C : Nat} (h : ∀ x, (![0, 0, 0] : Fin 3 → Nat) x + (⟨3, ![A, B, C]⟩ : Shape).size x ≤ (⟨3, ![A, B, C]⟩ : Shape).size x)
    (i : (⟨3, ![A, B, C]⟩ : Shape).Idx) : (Rect.unit (s := ⟨3, ![A, B, C]⟩) ![0, 0, 0] (⟨3, ![A, B, C]⟩ : Shape).size h).emb i = i := by
  funext x
  match x with
  | ⟨0, _⟩ => exact Fin.ext (by show 0 + 1 * (i 0).val = (i 0).val; omega)
  | ⟨1, _⟩ => exact Fin.ext (by show 0 + 1 * (i 1).val = (i 1).val; omega)
  | ⟨2, _⟩ => exact Fin.ext (by show 0 + 1 * (i 2).val = (i 2).val; omega)

/-! ## The scales -/

/-- Four rows of scales, each over sixteen rows. -/
theorem scales_rows (a b c d : FVec Ideal S1x256 .bf16) (k : Fin 64) (n : Fin 256) :
    scales a b c d (ix2 k n) = if k.val < 16 then a (ix2 0 n) else if k.val - 16 < 16 then b (ix2 0 n) else if k.val - 16 - 16 < 16 then c (ix2 0 n) else d (ix2 0 n) := by
  pointwise [scales]
  simp only [dite_eq_ite]

/-- The scales of tile `kt`: row `k` has the scale of block `4 kt + k / 16`. -/
theorem scales_apply (sc : FVec Ideal S64x256 .bf16) (kt : Fin 16) (k : Fin 64) (n : Fin 256) :
    scales (rowOf sc kt 0) (rowOf sc kt 1) (rowOf sc kt 2) (rowOf sc kt 3) (ix2 k n) = sc (ix2 ⟨4 * kt.val + k.val / 16, by omega⟩ n) := by
  have row : ∀ r : Fin 4, k.val / 16 = r.val → rowOf sc kt r (ix2 0 n) = sc (ix2 ⟨4 * kt.val + k.val / 16, by omega⟩ n) := by
    intro r hr
    have e := emb_ix2 (4 * kt.val + r.val) 0 (inb14 kt r) (0 : Fin 1) n (by show 4 * kt.val + r.val + 0 < 64; omega) (by omega)
    refine (congrArg sc e).trans (congrArg sc ?_)
    funext x
    match x with
    | ⟨0, _⟩ => exact Fin.ext (by show 4 * kt.val + r.val + 0 = 4 * kt.val + k.val / 16; omega)
    | ⟨1, _⟩ => exact Fin.ext (by show 0 + n.val = n.val; omega)
  rw [scales_rows]
  split
  · exact row 0 (by show k.val / 16 = 0; omega)
  split
  · exact row 1 (by show k.val / 16 = 1; omega)
  split
  · exact row 2 (by show k.val / 16 = 2; omega)
  · exact row 3 (by show k.val / 16 = 3; omega)

/-- The scales of a block of rows, from its codes, steps and the offset. -/
theorem absmax_apply (codes : IVec S256x64 8) (s2 : FVec Ideal S1x256 .f32) (off : Ideal .f32) (k : Fin 64) (n : Fin 256) :
    shapeCast S64x256 (absmax codes s2 off) shapeCasts_S64x256_S64x256 (ix2 k n)
      = FloatOps.sitofp (F := Ideal) .f32 (codes (ix2 n k)) * s2 (ix2 0 n) + off := by
  pointwise [absmax]

/-- The scales of block `b`: those of its 256 rows. -/
theorem scaleOf_apply (X4 : IVec S11008x64 8) (X5 : FVec Ideal S1x11008 .f32) (X6 : FVec Ideal S1x1 .f32) (b : Fin 43) (k : Fin 64) (n : Fin 256)
    (o : Fin 11008) (ho : o.val = 256 * b.val + n.val) :
    scaleOf X4 X5 X6 b (ix2 k n) = FloatOps.sitofp (F := Ideal) .f32 (X4 (ix2 o k)) * X5 (ix2 0 o) + X6 (ix2 0 0) := by
  unfold scaleOf
  rw [absmax_apply]
  have e4 : (Rect.unit (s := S11008x64) ![256 * b.val, 0] S256x64.size (inb4 b)).emb (ix2 n k) = ix2 o k := by
    refine (emb_ix2 (256 * b.val) 0 (inb4 b) n k (by omega) (by omega)).trans ?_
    exact congrArg₂ ix2 (Fin.ext ho.symm) (Fin.ext (by show 0 + k.val = k.val; omega))
  have e5 : (Rect.unit (s := S1x11008) ![0, 256 * b.val] S1x256.size (inb5 b)).emb (ix2 0 n) = ix2 0 o := by
    refine (emb_ix2 0 (256 * b.val) (inb5 b) (0 : Fin 1) n (by show 0 + 0 < 1; omega) (by omega)).trans ?_
    exact congrArg₂ ix2 (Fin.ext rfl) (Fin.ext ho.symm)
  have e6 : (Rect.unit (s := S1x1) ![0, 0] S1x1.size inb_S1x1_S1x1_0_0).emb (Shape.Idx.first (numel1_S1x1.symm ▸ Nat.one_pos)) = ix2 0 0 := by
    funext x
    match x with
    | ⟨0, _⟩ => exact Subsingleton.elim (α := Fin 1) _ _
    | ⟨1, _⟩ => exact Subsingleton.elim (α := Fin 1) _ _
  rw [e4, e5, e6]

/-! ## The weights -/

/-- The packed bytes of a tile as words: bit `8 e + i` of word `r` of a column is bit `i` of byte `4 r + e` of that row. -/
theorem words_bit (w : IVec S256x128 8) (r : Fin 32) (n : Fin 256) (e i : Nat) (he : e < 4) (hi : i < 8) :
    (words w (ix2 r n)).getLsbD (8 * e + i) = (w (ix2 n ⟨4 * r.val + e, by omega⟩)).getLsbD i := by
  unfold words
  rw [word_byte _ r n e i he hi]
  refine congrArg (fun b => BitVec.getLsbD b i) ?_
  pointwise

/-- The weights of block `b`: pair `g`, half `p` of column `n` is weight `source (2 g + p)` of row `256 b + n`. -/
theorem wtOf_apply (T : Fin 16 → BitVec 16) (X3 : IVec S16x256 16) (hT : ∀ v l, X3 (ix2 v l) = T v) (W : IVec S11008x2048 8)
    (sc : FVec Ideal S64x256 .bf16) (b : Fin 43) (k : Fin 4096) (n : Fin 256) (o : Fin 11008) (ho : o.val = 256 * b.val + n.val)
    (s : Fin 4096) (es : s = Layer.source k) :
    wtOf (tableOf X3) planes W sc b (ix3 ⟨k.val / 2, by omega⟩ ⟨k.val % 2, by omega⟩ n)
      = Ideal.ofBits .bf16 (T (Layer.code (W (ix2 o ⟨s.val / 2, by omega⟩)) s.val)) * sc (ix2 ⟨s.val / 64, by omega⟩ n) := by
  obtain ⟨k1, p, hp, e1⟩ := Layer.divide k.val 2 (by decide)
  obtain ⟨k2, r, hr, rfl⟩ := Layer.divide k1 32 (by decide)
  obtain ⟨k3, p0, h0, rfl⟩ := Layer.divide k2 2 (by decide)
  obtain ⟨kt, q, hq, rfl⟩ := Layer.divide k3 2 (by decide)
  have hkt : kt < 16 := by have := k.isLt; omega
  have hs := Layer.source_val k kt q p0 r p hq h0 hr hp (by omega)
  rw [← es] at hs
  have hpart : 2 * q + p0 < 4 := by omega
  have g1 : k.val / 2 / 128 = kt := by omega
  have g2 : k.val / 2 / 32 % 4 = 2 * q + p0 := by omega
  have g3 : k.val / 2 % 32 = r := by omega
  have g4 : k.val % 2 = p := by omega
  have hin : inQuarter (ix3 ⟨k.val / 2, by omega⟩ ⟨k.val % 2, by omega⟩ n) = ix3 ⟨r, hr⟩ ⟨p, hp⟩ n := by
    funext x
    match x with
    | ⟨0, _⟩ => exact Fin.ext g3
    | ⟨1, _⟩ => exact Fin.ext g4
    | ⟨2, _⟩ => rfl
  have hq1 : (2 * q + p0) / 2 = q := by omega
  have hq2 : (2 * q + p0) % 2 = p0 := by omega
  have byte : ∀ i, i < 8 → (words (fun j => W ((Rect.unit (s := S11008x2048) ![256 * b.val, 128 * kt] S256x128.size (inbTile b ⟨kt, hkt⟩)).emb j)) (ix2 ⟨r, hr⟩ n)).getLsbD (8 * (2 * p + q) + i)
      = (W (ix2 o ⟨s.val / 2, by omega⟩)).getLsbD i := by
    intro i hi
    rw [words_bit _ _ _ (2 * p + q) i (by omega) hi]
    refine congrArg (fun j => BitVec.getLsbD (W j) i) ?_
    refine (emb_ix2 (256 * b.val) (128 * kt) (inbTile b ⟨kt, hkt⟩) n ⟨4 * r + (2 * p + q), by omega⟩ (by omega) (by show 128 * kt + (4 * r + (2 * p + q)) < 2048; omega)).trans ?_
    exact congrArg₂ ix2 (Fin.ext ho.symm) (Fin.ext (by show 128 * kt + (4 * r + (2 * p + q)) = s.val / 2; omega))
  have hst := stored_apply (F := Ideal) (fun j => X3 ((Rect.unit (s := S16x256) ![0, 0] S16x256.size inb_S16x256_S16x256_0_0).emb j))
    (words fun j => W ((Rect.unit (s := S11008x2048) ![256 * b.val, 128 * kt] S256x128.size (inbTile b ⟨kt, hkt⟩)).emb j))
    (scales (rowOf sc ⟨kt, hkt⟩ 0) (rowOf sc ⟨kt, hkt⟩ 1) (rowOf sc ⟨kt, hkt⟩ 2) (rowOf sc ⟨kt, hkt⟩ 3)) ⟨2 * q + p0, hpart⟩ ⟨r, hr⟩ ⟨p, hp⟩ n
    (Layer.code (W (ix2 o ⟨s.val / 2, by omega⟩)) s.val) (T (Layer.code (W (ix2 o ⟨s.val / 2, by omega⟩)) s.val))
    (by
      intro i hi
      rw [Layer.code_testBit _ _ i hi, ← byte (4 * ((s.val + 1) % 2) + i) (by omega)]
      refine congrArg (BitVec.getLsbD _) ?_
      show 16 * p + 8 * ((2 * q + p0) / 2) + 4 * ((2 * q + p0) % 2) + i = 8 * (2 * p + q) + (4 * ((s.val + 1) % 2) + i)
      rw [hq1, hq2, show (s.val + 1) % 2 = p0 by omega]
      omega)
    (fun l => (congrArg X3 (emb_whole2 inb_S16x256_S16x256_0_0 _)).trans (hT _ l))
  rw [scales_apply sc ⟨kt, hkt⟩] at hst
  refine Eq.trans ?_ (hst.trans ?_)
  · show quarterOf (tableOf X3) planes W sc b ⟨k.val / 2 / 128, _⟩ (k.val / 2 / 32 % 4) (inQuarter (ix3 ⟨k.val / 2, by omega⟩ ⟨k.val % 2, by omega⟩ n)) = _
    rw [hin, g2]
    have : (⟨k.val / 2 / 128, by omega⟩ : Fin 16) = ⟨kt, hkt⟩ := Fin.ext g1
    rw [this]
    rfl
  · refine congrArg (fun a => Ideal.ofBits .bf16 _ * sc (ix2 a n)) (Fin.ext ?_)
    show 4 * kt + (2 * r + p) / 16 = s.val / 64
    omega

/-! ## The products -/

/-- A block of the result: its products, and the bias. -/
theorem product_apply (h : FVec Ideal S128x64 .bf16) (wt : FVec Ideal S2048x2x256 .bf16) (xp : FVec Ideal S128x4096 .bf16) (lb : FVec Ideal S256x64 .bf16)
    (bias : FVec Ideal S1x256 .f32) (i : Fin 128) (n : Fin 256) :
    product h (evenRows wt) (oddRows wt) xp lb bias (ix2 i n)
      = ∑ k : Fin 4096, xp (ix2 i k) * wt (ix3 ⟨k.val / 2, by omega⟩ ⟨k.val % 2, by omega⟩ n)
        + Ideal.ofBits .f32 1048576000#32 * ∑ r : Fin 64, h (ix2 i r) * lb (ix2 n r) + bias (ix2 0 n) := by
  have pick : ∀ k : Fin 4096, (if k.val % 2 = 0 then wt (ix3 ⟨k.val / 2, by omega⟩ 0 n) else wt (ix3 ⟨k.val / 2, by omega⟩ 1 n))
      = wt (ix3 ⟨k.val / 2, by omega⟩ ⟨k.val % 2, by omega⟩ n) := by
    intro k
    split
    · next hk => exact congrArg (fun p : Fin 2 => wt (ix3 _ p n)) (Fin.ext hk.symm)
    · next hk => exact congrArg (fun p : Fin 2 => wt (ix3 _ p n)) (Fin.ext (by show 1 = k.val % 2; omega))
  simp only [← pick]
  pointwise [product, evenRows, oddRows]

/-- The adapter's inner product. -/
theorem inner_apply (x : FVec Ideal S128x4096 .bf16) (a : FVec Ideal S64x4096 .bf16) (i : Fin 128) (r : Fin 64) :
    Shape.inner x a (ix2 i r) = ∑ k : Fin 4096, x (ix2 i k) * a (ix2 r k) := by
  unfold Shape.inner
  pointwise

/-- An entry of the result. -/
theorem resultOf_apply (X0 X1 : FVec Ideal S128x4096 .bf16) (W : IVec S11008x2048 8) (X3 : IVec S16x256 16) (X4 : IVec S11008x64 8)
    (X5 : FVec Ideal S1x11008 .f32) (X6 : FVec Ideal S1x1 .f32) (X7 : FVec Ideal S64x4096 .bf16) (X8 : FVec Ideal S11008x64 .bf16) (X9 : FVec Ideal S1x11008 .f32)
    (x : Fin 128 → Fin 4096 → EReal) (hx0 : ∀ i k, X0 (ix2 i k) = x i k) (hx1 : ∀ i k, X1 (ix2 i k) = x i (Layer.source k))
    (T : Fin 16 → BitVec 16) (hT : ∀ v l, X3 (ix2 v l) = T v) (step : Fin 2752 → EReal) (hs : ∀ o : Fin 11008, X5 (ix2 0 o) = step ⟨o.val / 4, by omega⟩)
    (i : Fin 128) (o : Fin 11008) :
    resultOf X0 X1 W X3 X4 X5 X6 X7 X8 X9 (ix2 i o)
      = Layer.entry x (Layer.weight T (fun o k => W (ix2 o k)) (Layer.scale (fun o k => X4 (ix2 o k)) step (X6 (ix2 0 0))))
          (fun r k => X7 (ix2 r k)) (fun o r => X8 (ix2 o r)) (fun o => X9 (ix2 0 o)) i o := by
  have hb : o.val / 256 < 43 := by omega
  have ho : o.val = 256 * (o.val / 256) + o.val % 256 := (Nat.div_add_mod o.val 256).symm
  have hin : inBlock (ix2 i o) = ix2 i ⟨o.val % 256, Nat.mod_lt _ (by decide)⟩ := by
    funext a
    match a with
    | ⟨0, _⟩ => rfl
    | ⟨1, _⟩ => rfl
  show columnsOf (innerOf X0 X7) (wts W X4 X5 X6 (tableOf X3) planes ⟨o.val / 256, hb⟩) X1 X8 X9 ⟨o.val / 256, hb⟩ (inBlock (ix2 i o)) = _
  rw [hin]
  unfold columnsOf
  rw [product_apply]
  unfold Layer.entry
  have e9 : (Rect.unit (s := S1x11008) ![0, 256 * (o.val / 256)] S1x256.size (inb5 ⟨o.val / 256, hb⟩)).emb (ix2 0 ⟨o.val % 256, Nat.mod_lt _ (by decide)⟩) = ix2 0 o := by
    refine (emb_ix2 0 (256 * (o.val / 256)) (inb5 ⟨o.val / 256, hb⟩) (0 : Fin 1) ⟨o.val % 256, Nat.mod_lt _ (by decide)⟩ (by show 0 + 0 < 1; omega) (by show 256 * (o.val / 256) + o.val % 256 < 11008; omega)).trans ?_
    exact congrArg₂ ix2 (Fin.ext rfl) (Fin.ext ho.symm)
  have e8 : ∀ r : Fin 64, (Rect.unit (s := S11008x64) ![256 * (o.val / 256), 0] S256x64.size (inb4 ⟨o.val / 256, hb⟩)).emb (ix2 ⟨o.val % 256, Nat.mod_lt _ (by decide)⟩ r) = ix2 o r := by
    intro r
    refine (emb_ix2 (256 * (o.val / 256)) 0 (inb4 ⟨o.val / 256, hb⟩) ⟨o.val % 256, Nat.mod_lt _ (by decide)⟩ r (by show 256 * (o.val / 256) + o.val % 256 < 11008; omega) (by omega)).trans ?_
    exact congrArg₂ ix2 (Fin.ext ho.symm) (Fin.ext (by show 0 + r.val = r.val; omega))
  refine congrArg₂ (· + ·) (congrArg₂ (· + ·) ((Finset.sum_congr rfl fun k _ => ?_).trans (Layer.sum_source fun k => x i k * Layer.weight T (fun o k => W (ix2 o k)) (Layer.scale (fun o k => X4 (ix2 o k)) step (X6 (ix2 0 0))) o k)) (congrArg _ (Finset.sum_congr rfl fun r _ => ?_))) (congrArg X9 e9)
  · refine congrArg₂ (· * ·) ((congrArg X1 (emb_whole2 inb_S128x4096_S128x4096_0_0 _)).trans (hx1 i k)) ?_
    refine (congrArg _ (emb_whole3 inb_S2048x2x256_S2048x2x256_0_0_0 _)).trans ?_
    refine (wtOf_apply T X3 hT W (scaleOf X4 X5 X6 ⟨o.val / 256, hb⟩) ⟨o.val / 256, hb⟩ k ⟨o.val % 256, Nat.mod_lt _ (by decide)⟩ o ho (Layer.source k) rfl).trans ?_
    refine congrArg (fun a => Ideal.ofBits .bf16 (T (Layer.code (W (ix2 o ⟨(Layer.source k).val / 2, by omega⟩)) (Layer.source k).val)) * a) ?_
    refine (scaleOf_apply X4 X5 X6 ⟨o.val / 256, hb⟩ _ _ o ho).trans ?_
    exact congrArg (fun a => FloatOps.sitofp (F := Ideal) .f32 (X4 (ix2 o ⟨(Layer.source k).val / 64, by omega⟩)) * a + X6 (ix2 0 0)) (hs o)
  · refine congrArg₂ (· * ·) ((inner_apply _ _ i r).trans (Finset.sum_congr rfl fun k _ => ?_)) (congrArg X8 (e8 r))
    exact congrArg₂ (· * ·) ((congrArg X0 (emb_whole2 inb_S128x4096_S128x4096_0_0 _)).trans (hx0 i k)) (congrArg X7 (emb_whole2 inb_S64x4096_S64x4096_0_0 _))

end Cert.KernelIdeal.Entry
-- ==== Proof.Arrays.lean ====
/- The arrays that the kernel's body is given, entry by entry, from the arguments. -/
module

public import proofs.«01_k».proof.Proof.IdealFrame
public import proofs.«01_k».proof.Proof.Entries
public import Idealize.ShloMosaic.Lib.StableHlo.Run

@[expose] public section

noncomputable section

namespace Cert.KernelIdeal.Arrays

open Cert.KernelIdeal Cert.KernelIdeal.Gen
open Idealize.ShloMosaic Idealize.ShloMosaic.TcCoe

/-! ## The operations before the kernel, at an entry -/

/-- The input as rows. -/
theorem rows_apply (x : FVec Ideal S128x1x4096 .bf16) (i : Fin 128) (k : Fin 4096) :
    shapeCast S128x4096 x shapeCasts_S128x1x4096_S128x4096 (ix2 i k) = x (ix3 i 0 k) := by
  pointwise

/-- The input with its columns in the kernel's order. -/
theorem ordered_apply (x : FVec Ideal S128x4096 .bf16) (i : Fin 128) (k : Fin 4096) :
    (shapeCast S128x4096
        (transpose S128x16x2x2x4x8x2 [0, 1, 5, 6, 2, 3, 4]
          (Host.reverse [6] (shapeCast S128x16x4x8x2x2x2 x shapeCasts_S128x4096_S128x16x4x8x2x2x2))
          transposes_S128x16x4x8x2x2x2_S128x16x2x2x4x8x2_0_1_5_6_2_3_4)
        shapeCasts_S128x16x2x2x4x8x2_S128x4096 : FVec Ideal S128x4096 .bf16) (ix2 i k) = x (ix2 i (Layer.source k)) := by
  pointwise
  refine congrArg (fun k => x (ix2 i k)) (Fin.ext ?_)
  show k.val / 256 * 256 + k.val / 16 % 4 * 64 + k.val / 2 % 8 * 8 + k.val % 2 * 4 + k.val / 128 % 2 * 2 + (2 - (k.val / 64 % 2 + 1)) = _
  exact Layer.source_digits k

/-- The steps, each over the four rows of its group. -/
theorem steps_apply (x : FVec Ideal S2752 .f32) (o : Fin 11008) :
    (shapeCast S1x11008 (shapeCast S11008 (broadcastInDim S2752x4 ![0] bcast_S2752_S2752x4_0 x) shapeCasts_S2752x4_S11008)
        shapeCasts_S11008_S1x11008 : FVec Ideal S1x11008 .f32) (ix2 0 o) = x (ix1 ⟨o.val / 4, by omega⟩) := by
  pointwise

/-- The table, each value over 256 columns. -/
theorem table_apply (x : IVec S16 16) (v : Fin 16) (l : Fin 256) :
    broadcastInDim S16x256 ![0, 1] bcast_S16x1_S16x256_0_1 (broadcastInDim S16x1 ![0] bcast_S16_S16x1_0 x) (ix2 v l) = x (ix1 v) := by
  pointwise

/-- The offset. -/
theorem offset_apply (x : FVec Ideal S1 .f32) : shapeCast S1x1 x shapeCasts_S1_S1x1 (ix2 0 0) = x (ix1 0) := by
  pointwise

/-- The biases as a row. -/
theorem bias_apply (x : FVec Ideal S11008 .f32) (o : Fin 11008) : shapeCast S1x11008 x shapeCasts_S11008_S1x11008 (ix2 0 o) = x (ix1 o) := by
  pointwise

/-! ## The arrays -/

variable (m : (ℓ : Loc nD τ sig) → Buf (Elt Ideal) ℓ) (c : Dev nD)

theorem V_v0 : V m c main_v0 = shapeCast S128x4096 (m ((c.tc : Thread nD τ).loc main_arg0)) shapeCasts_S128x1x4096_S128x4096 := by
  unfold V hostOps0
  after_results_simp
  rfl

theorem V_v4 : V m c main_v4 = shapeCast S128x4096
        (transpose S128x16x2x2x4x8x2 [0, 1, 5, 6, 2, 3, 4]
          (Host.reverse [6] (shapeCast S128x16x4x8x2x2x2 (shapeCast S128x4096 (m ((c.tc : Thread nD τ).loc main_arg0)) shapeCasts_S128x1x4096_S128x4096) shapeCasts_S128x4096_S128x16x4x8x2x2x2))
          transposes_S128x16x4x8x2x2x2_S128x16x2x2x4x8x2_0_1_5_6_2_3_4)
        shapeCasts_S128x16x2x2x4x8x2_S128x4096 := by
  unfold V hostOps0
  after_results_simp
  rfl

theorem V_v6 : V m c main_v6 = broadcastInDim S16x256 ![0, 1] bcast_S16x1_S16x256_0_1 (broadcastInDim S16x1 ![0] bcast_S16_S16x1_0 (m ((c.tc : Thread nD τ).loc main_arg2))) := by
  unfold V hostOps0
  after_results_simp

theorem V_v9 : V m c main_v9 = shapeCast S1x11008 (shapeCast S11008 (broadcastInDim S2752x4 ![0] bcast_S2752_S2752x4_0 (m ((c.tc : Thread nD τ).loc main_arg4))) shapeCasts_S2752x4_S11008)
        shapeCasts_S11008_S1x11008 := by
  unfold V hostOps0
  after_results_simp
  rfl

theorem V_v10 : V m c main_v10 = shapeCast S1x1 (m ((c.tc : Thread nD τ).loc main_arg5)) shapeCasts_S1_S1x1 := by
  unfold V hostOps0
  after_results_simp
  rfl

theorem V_v11 : V m c main_v11 = shapeCast S1x11008 (m ((c.tc : Thread nD τ).loc main_arg8)) shapeCasts_S11008_S1x11008 := by
  unfold V hostOps0
  after_results_simp
  rfl

/-- An entry of the kernel's result, from the arguments. -/
theorem result_apply (i : Fin 128) (o : Fin 11008) :
    (Hand.result m c : FVec Ideal S128x11008 .bf16) (ix2 i o)
      = Layer.entry (fun i k => (m ((c.tc : Thread nD τ).loc main_arg0) : FVec Ideal S128x1x4096 .bf16) (ix3 i 0 k))
          (Layer.weight (fun v => (m ((c.tc : Thread nD τ).loc main_arg2) : IVec S16 16) (ix1 v)) (fun o k => (m ((c.tc : Thread nD τ).loc main_arg1) : IVec S11008x2048 8) (ix2 o k))
            (Layer.scale (fun o k => (m ((c.tc : Thread nD τ).loc main_arg3) : IVec S11008x64 8) (ix2 o k)) (fun g => (m ((c.tc : Thread nD τ).loc main_arg4) : FVec Ideal S2752 .f32) (ix1 g))
              ((m ((c.tc : Thread nD τ).loc main_arg5) : FVec Ideal S1 .f32) (ix1 0))))
          (fun r k => (m ((c.tc : Thread nD τ).loc main_arg6) : FVec Ideal S64x4096 .bf16) (ix2 r k)) (fun o r => (m ((c.tc : Thread nD τ).loc main_arg7) : FVec Ideal S11008x64 .bf16) (ix2 o r))
          (fun o => (m ((c.tc : Thread nD τ).loc main_arg8) : FVec Ideal S11008 .f32) (ix1 o)) i o := by
  unfold Hand.result
  rw [V_v0, V_v4, V_v6, V_v9, V_v10, V_v11, V_main_arg1, V_main_arg3, V_main_arg6, V_main_arg7]
  refine (Entry.resultOf_apply _ _ _ _ _ _ _ _ _ _ (fun i k => (m ((c.tc : Thread nD τ).loc main_arg0) : FVec Ideal S128x1x4096 .bf16) (ix3 i 0 k))
    (rows_apply _) (fun i k => (ordered_apply _ i k).trans (rows_apply _ i _))
    (fun v => (m ((c.tc : Thread nD τ).loc main_arg2) : IVec S16 16) (ix1 v)) (table_apply _)
    (fun g => (m ((c.tc : Thread nD τ).loc main_arg4) : FVec Ideal S2752 .f32) (ix1 g)) (steps_apply _) i o).trans ?_
  rw [offset_apply, funext (bias_apply (m ((c.tc : Thread nD τ).loc main_arg8)))]

end Cert.KernelIdeal.Arrays
-- ==== Proof.Reference.lean ====
module

public import proofs.«01_k».proof.Proof.Gen.ReferenceIdeal.Run
public import proofs.«01_k».proof.Proof.Layer
public import Idealize.ShloMosaic.Lib.Pointwise

/-!
# The reference at one entry

The reference's result, read at row `i` and column `o`, is the plain layer of `Layer.entry`.
-/

@[expose] public section

noncomputable section

namespace Cert.ReferenceIdeal.Entry
open Cert.ReferenceIdeal Idealize.ShloMosaic

variable [Facts]
open Facts₀ Facts

/-- The codes of the packed bytes, high half first, arranged as output row, block, position in the block. -/
def codes (W : IVec S11008x2048 8) : IVec S11008x64x64 32 :=
  shapeCast _ (concatenate S11008x2048x2 2 [⟨S11008x2048x1, broadcastInDim S11008x2048x1 ![0, 1] bcast_S11008x2048_S11008x2048x1_0_1 (Host.shrsi (extui 32 W natLt_8_32) (broadcastInDim S11008x2048 ![] bcast_S_S11008x2048 (constantI S_ 32 4#32)))⟩, ⟨S11008x2048x1, broadcastInDim S11008x2048x1 ![0, 1] bcast_S11008x2048_S11008x2048x1_0_1 (andi (extui 32 W natLt_8_32) (broadcastInDim S11008x2048 ![] bcast_S_S11008x2048 (constantI S_ 32 15#32)))⟩] concatenates_S11008x2048x1_S11008x2048x1_S11008x2048x2_d2) shapeCasts_S11008x2048x2_S11008x64x64

/-- The indices that the table is read at: a negative code would count from the table's end. -/
def wrapped (C : IVec S11008x64x64 32) : IVec S11008x64x64x1 32 :=
  broadcastInDim S11008x64x64x1 ![0, 1, 2] bcast_S11008x64x64_S11008x64x64x1_0_1_2 (select (cmpi .slt C (broadcastInDim S11008x64x64 ![] bcast_S_S11008x64x64 (constantI S_ 32 0#32))) (addi C (broadcastInDim S11008x64x64 ![] bcast_S_S11008x64x64 (constantI S_ 32 16#32))) C)

/-- The scales of the blocks. -/
def scales (C : IVec S11008x64 8) (step : FVec Ideal S2752 .f32) (off : FVec Ideal S1 .f32) : FVec Ideal S11008x64 .f32 :=
  shapeCast _ (addf (mulf (sitofp .f32 (extsi 32 (shapeCast S2752x256 C shapeCasts_S11008x64_S2752x256) natLt_8_32)) (broadcastInDim S2752x256 ![0, 1] bcast_S2752x1_S2752x256_0_1 (broadcastInDim S2752x1 ![0] bcast_S2752_S2752x1_0 step))) (broadcastInDim S2752x256 ![] bcast_S_S2752x256 (shapeCast S_ off shapeCasts_S1_S_))) shapeCasts_S2752x256_S11008x64

/-- The table's entries, each times the scale of its block. -/
def weights (T : FVec Ideal S11008x64x64 .bf16) (S : FVec Ideal S11008x64 .bf16) : FVec Ideal S11008x4096 .bf16 :=
  shapeCast _ (mulf T (broadcastInDim S11008x64x64 ![0, 1, 2] bcast_S11008x64x1_S11008x64x64_0_1_2 (broadcastInDim S11008x64x1 ![0, 1] bcast_S11008x64_S11008x64x1_0_1 S))) shapeCasts_S11008x64x64_S11008x4096

/-- The high half of a byte, as a word. -/
theorem high_half (w : BitVec 8) : IntOp.shrsi ArithUnit.host (BitVec.setWidth 32 w) 4#32 = BitVec.ofNat 32 (w.toNat / 16) := by
  have hw := w.isLt
  have hm : (BitVec.setWidth 32 w).msb = false := by
    rw [BitVec.msb_eq_false_iff_two_mul_lt, BitVec.toNat_setWidth]
    omega
  refine BitVec.eq_of_toNat_eq ?_
  show (BitVec.sshiftRight (BitVec.setWidth 32 w) 4).toNat = _
  rw [BitVec.sshiftRight_eq_of_msb_false hm, BitVec.toNat_ushiftRight, BitVec.toNat_setWidth, BitVec.toNat_ofNat, Nat.shiftRight_eq_div_pow]
  omega

/-- The low half of a byte, as a word. -/
theorem low_half (w : BitVec 8) : IntOp.andi (BitVec.setWidth 32 w) 15#32 = BitVec.ofNat 32 (w.toNat % 16) := by
  have hw := w.isLt
  refine BitVec.eq_of_toNat_eq ?_
  show (BitVec.setWidth 32 w &&& 15#32).toNat = _
  rw [BitVec.toNat_and, BitVec.toNat_setWidth, BitVec.toNat_ofNat, BitVec.toNat_ofNat, Nat.and_two_pow_sub_one_eq_mod (n := 4)]
  omega

/-- The code at a position of a block. -/
theorem codes_apply (W : IVec S11008x2048 8) (o : Fin 11008) (b l : Fin 64) :
    codes W (ix3 o b l) = BitVec.ofNat 32 (Layer.code (W (ix2 o ⟨b.val * 32 + l.val / 2, by omega⟩)) l.val).val := by
  pointwise [codes]
  unfold Layer.code
  by_cases h : l.val % 2 = 0
  · rw [dif_pos (by omega), if_pos h]
    exact high_half _
  · rw [dif_neg (by omega), if_neg h]
    exact low_half _

/-- Widening a code first leaves the number that it stands for. -/
theorem widened (v : BitVec 8) : FloatOps.sitofp (F := Ideal) .f32 (BitVec.signExtend 32 v) = FloatOps.sitofp (F := Ideal) .f32 v := by
  show ((((BitVec.signExtend 32 v).toInt : ℝ)) : EReal) = (((v.toInt : ℝ)) : EReal)
  rw [BitVec.toInt_signExtend_of_le (by decide)]

/-- The scale of a block. -/
theorem scales_apply (C : IVec S11008x64 8) (step : FVec Ideal S2752 .f32) (off : FVec Ideal S1 .f32)
    (o : Fin 11008) (b : Fin 64) :
    scales C step off (ix2 o b)
      = Layer.scale (fun o k => C (ix2 o k)) (fun g => step (ix1 g)) (off (ix1 0)) o b := by
  pointwise [scales, Layer.scale]
  rw [widened]

/-- A code between `0` and `15` is its own index. -/
theorem wrapped_apply (C : IVec S11008x64x64 32) (o : Fin 11008) (b l : Fin 64) (v : Fin 16)
    (h : C (ix3 o b l) = BitVec.ofNat 32 v.val) :
    wrapped C (ix4 o b l 0) = BitVec.ofNat 32 v.val := by
  pointwise [wrapped]
  rw [h]
  clear h
  revert v
  decide

/-- A weight: its table entry times the scale of its block. -/
theorem weights_apply (T : FVec Ideal S11008x64x64 .bf16) (S : FVec Ideal S11008x64 .bf16)
    (o : Fin 11008) (k : Fin 4096) :
    weights T S (ix2 o k) = T (ix3 o ⟨k.val / 64, by omega⟩ ⟨k.val % 64, by omega⟩)
      * S (ix2 o ⟨k.val / 64, by omega⟩) := by
  pointwise [weights]

/-- The table read at an index between `0` and `15`. -/
theorem gather_apply {α : Type} (T : S16.Idx → α) (I : IVec S11008x64x64x1 32) (o : Fin 11008) (b l : Fin 64) :
    Host.gather gather_S16_S11008x64x64x1_S11008x64x64_n_0_n_n_0_3_1 T I (ix3 o b l)
      = T (ix1 ⟨min (I (ix4 o b l 0)).toInt.toNat 15, by omega⟩) := by
  unfold Host.gather
  congr 1
  funext a
  obtain rfl : a = 0 := Subsingleton.elim _ _
  refine Fin.ext ?_
  show GatherDims.start _ _ _ _ + GatherDims.batchCoord _ _ _ + GatherDims.offCoord _ _ _ = _
  rw [GatherDims.batchCoord_eq_zero _ _ _ (by exact List.not_mem_nil),
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S16_S11008x64x64x1_S11008x64x64_n_0_n_n_0_3_1.startIndexMap from List.mem_singleton.mpr rfl)]
  have hsi : GatherDims.siIdx gather_S16_S11008x64x64x1_S11008x64x64_n_0_n_n_0_3_1 (ix3 o b l) ⟨List.idxOf (0 : Fin 1) gather_S16_S11008x64x64x1_S11008x64x64_n_0_n_n_0_3_1.startIndexMap,
      List.idxOf_lt_length_iff.2 (List.mem_singleton.mpr rfl)⟩ = ix4 o b l 0 := by
    funext b; refine Fin.ext ?_
    match b with
    | ⟨0, _⟩ => rfl
    | ⟨1, _⟩ => rfl
    | ⟨2, _⟩ => rfl
    | ⟨3, _⟩ => rfl
  rw [hsi]
  rfl

/-- The table's entry for a code. -/
theorem looked_apply (T : IVec S16 16) (I : IVec S11008x64x64x1 32) (o : Fin 11008) (b l : Fin 64) (v : Fin 16)
    (h : I (ix4 o b l 0) = BitVec.ofNat 32 v.val) :
    Host.gather gather_S16_S11008x64x64x1_S11008x64x64_n_0_n_n_0_3_1 (bitcastToFloat (F := Ideal) .bf16 T) I (ix3 o b l)
      = Ideal.ofBits .bf16 (T (ix1 v)) := by
  rw [gather_apply]
  refine congrArg (fun v => Ideal.ofBits .bf16 (T (ix1 v))) (Fin.ext ?_)
  show min (I (ix4 o b l 0)).toInt.toNat 15 = v.val
  rw [h]
  clear h
  revert v
  decide

/-- The reference's weights, from the arguments. -/
def weightsOf (W : IVec S11008x2048 8) (T : IVec S16 16) (C : IVec S11008x64 8) (step : FVec Ideal S2752 .f32)
    (off : FVec Ideal S1 .f32) : FVec Ideal S11008x4096 .bf16 :=
  weights (Host.gather gather_S16_S11008x64x64x1_S11008x64x64_n_0_n_n_0_3_1 (bitcastToFloat (F := Ideal) .bf16 T) (wrapped (codes W)))
    (truncf .bf16 (scales C step off) bitsLt_bf16_f32)

/-- A weight of the reference is that of the layer. -/
theorem weightsOf_apply (W : IVec S11008x2048 8) (T : IVec S16 16) (C : IVec S11008x64 8) (step : FVec Ideal S2752 .f32)
    (off : FVec Ideal S1 .f32) (o : Fin 11008) (k : Fin 4096) :
    weightsOf W T C step off (ix2 o k)
      = Layer.weight (fun v => T (ix1 v)) (fun o k => W (ix2 o k)) (Layer.scale (fun o k => C (ix2 o k)) (fun g => step (ix1 g)) (off (ix1 0))) o k := by
  refine (weights_apply _ _ o k).trans ?_
  rw [looked_apply T _ o _ _ _ (wrapped_apply _ o _ _ _ (codes_apply W o _ _))]
  refine congrArg₂ (· * ·) ?_ (scales_apply C step off o _)
  have e : (⟨k.val / 64 * 32 + k.val % 64 / 2, by omega⟩ : Fin 2048) = ⟨k.val / 2, by omega⟩ := Fin.ext (by show k.val / 64 * 32 + k.val % 64 / 2 = k.val / 2; omega)
  have p : k.val % 64 % 2 = k.val % 2 := by omega
  refine congrArg (fun v => Ideal.ofBits .bf16 (T (ix1 v))) ?_
  show Layer.code (W (ix2 o (⟨k.val / 64 * 32 + k.val % 64 / 2, by omega⟩ : Fin 2048))) (k.val % 64) = _
  rw [e]
  unfold Layer.code
  rw [p]

/-- The reference's result, from its weights and the other arguments. -/
def resultOf (x : FVec Ideal S128x1x4096 .bf16) (w : FVec Ideal S11008x4096 .bf16) (A : FVec Ideal S64x4096 .bf16)
    (B : FVec Ideal S11008x64 .bf16) (bias : FVec Ideal S11008 .f32) : FVec Ideal S128x11008 .bf16 :=
  shapeCast _ (truncf .bf16 (addf (addf (Host.dotGeneral dot_S128x1x4096_S11008x4096_S128x1x11008_2_1_01_0_n_n none x w) (mulf (broadcastInDim S128x1x11008 ![] bcast_S_S128x1x11008 (constant S_ .f32 0x3E800000#32)) (Host.dotGeneral dot_S128x1x64_S11008x64_S128x1x11008_2_1_01_0_n_n none (truncf .bf16 (Host.dotGeneral dot_S128x1x4096_S64x4096_S128x1x64_2_1_01_0_n_n none x A) bitsLt_bf16_f32) B))) (broadcastInDim S128x1x11008 ![0, 1, 2] bcast_S1x1x11008_S128x1x11008_0_1_2 (broadcastInDim S1x1x11008 ![2] bcast_S11008_S1x1x11008_2 bias))) bitsLt_bf16_f32) shapeCasts_S128x1x11008_S128x11008

/-- An entry of the reference's result. -/
theorem resultOf_apply (x : FVec Ideal S128x1x4096 .bf16) (w : FVec Ideal S11008x4096 .bf16) (A : FVec Ideal S64x4096 .bf16)
    (B : FVec Ideal S11008x64 .bf16) (bias : FVec Ideal S11008 .f32) (i : Fin 128) (o : Fin 11008) :
    resultOf x w A B bias (ix2 i o)
      = Layer.entry (fun i k => x (ix3 i 0 k)) (fun o k => w (ix2 o k)) (fun r k => A (ix2 r k)) (fun o r => B (ix2 o r)) (fun o => bias (ix1 o)) i o := by
  pointwise [resultOf, Layer.entry]

end Cert.ReferenceIdeal.Entry
-- ==== Proof.lean ====
module

public import proofs.«01_k».proof.Defs
public import proofs.«01_k».proof.Proof.KernelFrame
public import proofs.«01_k».proof.Proof.IdealFrame
public import proofs.«01_k».proof.Proof.Arrays
public import proofs.«01_k».proof.Proof.Reference
public import proofs.«01_k».proof.Proof.Gen.ReferenceIdeal
public import proofs.«01_k».proof.Proof.Gen.ReferenceIdeal.Run
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs, its nine arguments unchanged and every semaphore at zero. -/
theorem frame_kernel : Cert.quiescent_Kernel := fun m ρ _ =>
  (θ_run Cert.Kernel.defs _ _).mono (fun _ h => ⟨fun c => (h.1 c).2, h.2⟩) (Cert.Kernel.Hand.ends m ρ)

/-- So does its reading over the extended reals. -/
theorem frame_ideal : Cert.quiescent_KernelIdeal := fun m ρ _ =>
  (θ_run Cert.KernelIdeal.defs _ _).mono (fun _ h => ⟨fun c => (h.1 c).2, h.2⟩) (Cert.KernelIdeal.Hand.ends m ρ)

/-- So does the reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The rewrites' statements: the two weight buffers of pairs, and the rows and words read as each other. -/
theorem preserves : Cert.preserves_Kernel_KernelIdeal :=
  open Cert.KernelIdeal IdealRules.bf16_pair in
  ⟨bufferStatement S2048x2x256 S2048x1x256, statement S64x256 S32x256, statement S32x2x256 S32x1x256,
    statement S2048x2x256 S2048x1x256, statement S4096x256 S2048x256⟩

/-- At the same arguments the kernel's result is the reference's: entry by entry, both are the plain layer's. -/
theorem algebraic : Cert.algebraic_KernelIdeal_ReferenceIdeal := by
  intro m g m' g' _ hm
  refine ⟨Cert.KernelIdeal.Hand.result m, (θ_run Cert.KernelIdeal.defs _ _).mono (fun _ h => h.1) (Cert.KernelIdeal.Hand.ends m g),
    (θ_run Cert.ReferenceIdeal.defs _ _).mono (fun _ h c => ⟨(h c).1.trans ?_, (h c).2⟩) (Cert.ReferenceIdeal.Value.run (F := Ideal) m' g')⟩
  obtain ⟨h0, h1, h2, h3, h4, h5, h6, h7, h8⟩ := hm c
  rw [h0, h1, h2, h3, h4, h5, h6, h7, h8]
  funext j
  obtain ⟨i, o, rfl⟩ : ∃ (i : Fin 128) (o : Fin 11008), j = ix2 i o := ⟨j 0, j 1, eq_ix2 j⟩
  refine (Cert.ReferenceIdeal.Entry.resultOf_apply _ (Cert.ReferenceIdeal.Entry.weightsOf _ _ _ _ _) _ _ _ i o).trans ?_
  refine Eq.trans ?_ (Cert.KernelIdeal.Arrays.result_apply m c i o).symm
  refine congrArg (fun w => Layer.entry _ w _ _ _ i o) ?_
  funext o k
  exact Cert.ReferenceIdeal.Entry.weightsOf_apply _ _ _ _ _ o k

theorem claim : Cert.Claim := ⟨Cert.Kernel.Gen.facts, Cert.KernelIdeal.Gen.facts, Cert.ReferenceIdeal.Gen.facts,
  frame_kernel, frame_ideal, frame_reference, preserves, algebraic⟩

end Cert.Proof

end
